-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S3x128x256 : Shape := ⟨3, ![3, 128, 256]⟩
abbrev S3x256x128 : Shape := ⟨3, ![3, 256, 128]⟩
abbrev S2x3 : Shape := ⟨2, ![2, 3]⟩
abbrev S3x128x128 : Shape := ⟨3, ![3, 128, 128]⟩
abbrev S3x3x128x128 : Shape := ⟨4, ![3, 3, 128, 128]⟩
abbrev S3x3 : Shape := ⟨2, ![3, 3]⟩
abbrev S1x1 : Shape := ⟨2, ![1, 1]⟩
abbrev S_ : Shape := ⟨0, ![]⟩
abbrev S1x128x256 : Shape := ⟨3, ![1, 128, 256]⟩
abbrev S1x256x128 : Shape := ⟨3, ![1, 256, 128]⟩
abbrev S1x128x128 : Shape := ⟨3, ![1, 128, 128]⟩
abbrev S1x1x128x128 : Shape := ⟨4, ![1, 1, 128, 128]⟩

abbrev nBuf : Space → Nat
  | .hbm => 8
  | .vmem => 6
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S3x128x256, .f32⟩
  | .local _ .vmem, ⟨3, _⟩ => ⟨S3x256x128, .f32⟩
  | .local _ .vmem, ⟨4, _⟩ => ⟨S3x128x128, .bf16⟩
  | .local _ .vmem, ⟨5, _⟩ => ⟨S3x3x128x128, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v28 : BitVec 32 := Scalar.addi v2 c1_i32_28
  let c4_i32_29 : BitVec 32 := 4#32
  let c0_i32_30 : BitVec 32 := 0#32
  let v29 : BitVec 1 := Scalar.cmpi .eq c4_i32_29 c0_i32_30
  let c1_i32_31 : BitVec 32 := 1#32
  let v30 : BitVec 32 := Scalar.select v29 c1_i32_31 c4_i32_29
  let v31 : BitVec 32 := Scalar.remsi v28 v30
  let c0_i32_33 : BitVec 32 := 0#32
  let v33 : BitVec 1 := Scalar.cmpi .slt v31 c0_i32_33
  let c0_i32_34 : BitVec 32 := 0#32
  let v34 : BitVec 1 := Scalar.cmpi .slt v30 c0_i32_34
  let v35 : BitVec 1 := Scalar.xori v33 v34
  let c0_i32_32 : BitVec 32 := 0#32
  let v32 : BitVec 1 := Scalar.cmpi .ne v31 c0_i32_32
  let v36 : BitVec 1 := Scalar.andi v35 v32
  let v37 : BitVec 32 := Scalar.addi v31 v30
  let v38 : BitVec 32 := Scalar.select v36 v37 v31
  let c1_i32_36 : BitVec 32 := 1#32
  let v39 : BitVec 32 := Scalar.muli v38 c1_i32_36
  let v40 : BitVec 32 := Scalar.addi c0_i32_37 v39
  v40.toNat
def k0_dev2 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_38 : BitVec 32 := 2#32
  let v41 : BitVec 32 := Scalar.addi v2 c2_i32_38
  let c4_i32_39 : BitVec 32 := 4#32
  let c0_i32_40 : BitVec 32 := 0#32
  let v42 : BitVec 1 := Scalar.cmpi .eq c4_i32_39 c0_i32_40
  let c1_i32_41 : BitVec 32 := 1#32
  let v43 : BitVec 32 := Scalar.select v42 c1_i32_41 c4_i32_39
  let v44 : BitVec 32 := Scalar.remsi v41 v43
  let c0_i32_43 : BitVec 32 := 0#32
  let v46 : BitVec 1 := Scalar.cmpi .slt v44 c0_i32_43
  let c0_i32_44 : BitVec 32 := 0#32
  let v47 : BitVec 1 := Scalar.cmpi .slt v43 c0_i32_44
  let v48 : BitVec 1 := Scalar.xori v46 v47
  let c0_i32_42 : BitVec 32 := 0#32
  let v45 : BitVec 1 := Scalar.cmpi .ne v44 c0_i32_42
  let v49 : BitVec 1 := Scalar.andi v48 v45
  let v50 : BitVec 32 := Scalar.addi v44 v43
  let v51 : BitVec 32 := Scalar.select v49 v50 v44
  let c1_i32_46 : BitVec 32 := 1#32
  let v52 : BitVec 32 := Scalar.muli v51 c1_i32_46
  let v53 : BitVec 32 := Scalar.addi c0_i32_47 v52
  v53.toNat
def k0_dev3 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v54 : BitVec 32 := Scalar.addi v2 c3_i32
  let c4_i32_48 : BitVec 32 := 4#32
  let c0_i32_49 : BitVec 32 := 0#32
  let v55 : BitVec 1 := Scalar.cmpi .eq c4_i32_48 c0_i32_49
  let c1_i32_50 : BitVec 32 := 1#32
  let v56 : BitVec 32 := Scalar.select v55 c1_i32_50 c4_i32_48
  let v57 : BitVec 32 := Scalar.remsi v54 v56
  let c0_i32_52 : BitVec 32 := 0#32
  let v59 : BitVec 1 := Scalar.cmpi .slt v57 c0_i32_52
  let c0_i32_53 : BitVec 32 := 0#32
  let v60 : BitVec 1 := Scalar.cmpi .slt v56 c0_i32_53
  let v61 : BitVec 1 := Scalar.xori v59 v60
  let c0_i32_51 : BitVec 32 := 0#32
  let v58 : BitVec 1 := Scalar.cmpi .ne v57 c0_i32_51
  let v62 : BitVec 1 := Scalar.andi v61 v58
  let v63 : BitVec 32 := Scalar.addi v57 v56
  let v64 : BitVec 32 := Scalar.select v62 v63 v57
  let c1_i32_55 : BitVec 32 := 1#32
  let v65 : BitVec 32 := Scalar.muli v64 c1_i32_55
  let v66 : BitVec 32 := Scalar.addi c0_i32_56 v65
  v66.toNat
def k0_dev4 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_80 : BitVec 32 := 1#32
  let v93 : BitVec 32 := Scalar.addi v2 c1_i32_80
  let c4_i32_81 : BitVec 32 := 4#32
  let c0_i32_82 : BitVec 32 := 0#32
  let v94 : BitVec 1 := Scalar.cmpi .eq c4_i32_81 c0_i32_82
  let c1_i32_83 : BitVec 32 := 1#32
  let v95 : BitVec 32 := Scalar.select v94 c1_i32_83 c4_i32_81
  let v96 : BitVec 32 := Scalar.remsi v93 v95
  let c0_i32_85 : BitVec 32 := 0#32
  let v98 : BitVec 1 := Scalar.cmpi .slt v96 c0_i32_85
  let c0_i32_86 : BitVec 32 := 0#32
  let v99 : BitVec 1 := Scalar.cmpi .slt v95 c0_i32_86
  let v100 : BitVec 1 := Scalar.xori v98 v99
  let c0_i32_84 : BitVec 32 := 0#32
  let v97 : BitVec 1 := Scalar.cmpi .ne v96 c0_i32_84
  let v101 : BitVec 1 := Scalar.andi v100 v97
  let v102 : BitVec 32 := Scalar.addi v96 v95
  let v103 : BitVec 32 := Scalar.select v101 v102 v96
  let c1_i32_94 : BitVec 32 := 1#32
  let v104 : BitVec 32 := Scalar.muli v103 c1_i32_94
  let v105 : BitVec 32 := Scalar.addi c0_i32_95 v104
  v105.toNat
def k0_dev5 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_100 : BitVec 32 := 2#32
  let v114 : BitVec 32 := Scalar.addi v2 c2_i32_100
  let c4_i32_101 : BitVec 32 := 4#32
  let c0_i32_102 : BitVec 32 := 0#32
  let v115 : BitVec 1 := Scalar.cmpi .eq c4_i32_101 c0_i32_102
  let c1_i32_103 : BitVec 32 := 1#32
  let v116 : BitVec 32 := Scalar.select v115 c1_i32_103 c4_i32_101
  let v117 : BitVec 32 := Scalar.remsi v114 v116
  let c0_i32_105 : BitVec 32 := 0#32
  let v119 : BitVec 1 := Scalar.cmpi .slt v117 c0_i32_105
  let c0_i32_106 : BitVec 32 := 0#32
  let v120 : BitVec 1 := Scalar.cmpi .slt v116 c0_i32_106
  let v121 : BitVec 1 := Scalar.xori v119 v120
  let c0_i32_104 : BitVec 32 := 0#32
  let v118 : BitVec 1 := Scalar.cmpi .ne v117 c0_i32_104
  let v122 : BitVec 1 := Scalar.andi v121 v118
  let v123 : BitVec 32 := Scalar.addi v117 v116
  let v124 : BitVec 32 := Scalar.select v122 v123 v117
  let c1_i32_114 : BitVec 32 := 1#32
  let v125 : BitVec 32 := Scalar.muli v124 c1_i32_114
  let v126 : BitVec 32 := Scalar.addi c0_i32_115 v125
  v126.toNat
def k0_dev6 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_120 : BitVec 32 := 3#32
  let v135 : BitVec 32 := Scalar.addi v2 c3_i32_120
  let c4_i32_121 : BitVec 32 := 4#32
  let c0_i32_122 : BitVec 32 := 0#32
  let v136 : BitVec 1 := Scalar.cmpi .eq c4_i32_121 c0_i32_122
  let c1_i32_123 : BitVec 32 := 1#32
  let v137 : BitVec 32 := Scalar.select v136 c1_i32_123 c4_i32_121
  let v138 : BitVec 32 := Scalar.remsi v135 v137
  let c0_i32_125 : BitVec 32 := 0#32
  let v140 : BitVec 1 := Scalar.cmpi .slt v138 c0_i32_125
  let c0_i32_126 : BitVec 32 := 0#32
  let v141 : BitVec 1 := Scalar.cmpi .slt v137 c0_i32_126
  let v142 : BitVec 1 := Scalar.xori v140 v141
  let c0_i32_124 : BitVec 32 := 0#32
  let v139 : BitVec 1 := Scalar.cmpi .ne v138 c0_i32_124
  let v143 : BitVec 1 := Scalar.andi v142 v139
  let v144 : BitVec 32 := Scalar.addi v138 v137
  let v145 : BitVec 32 := Scalar.select v143 v144 v138
  let c1_i32_134 : BitVec 32 := 1#32
  let v146 : BitVec 32 := Scalar.muli v145 c1_i32_134
  let v147 : BitVec 32 := Scalar.addi c0_i32_135 v146
  v147.toNat
def k0_dev7 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_211 : BitVec 32 := 1#32
  let v216 : BitVec 32 := Scalar.addi v2 c1_i32_211
  let c4_i32_212 : BitVec 32 := 4#32
  let c0_i32_213 : BitVec 32 := 0#32
  let v217 : BitVec 1 := Scalar.cmpi .eq c4_i32_212 c0_i32_213
  let c1_i32_214 : BitVec 32 := 1#32
  let v218 : BitVec 32 := Scalar.select v217 c1_i32_214 c4_i32_212
  let v219 : BitVec 32 := Scalar.remsi v216 v218
  let c0_i32_216 : BitVec 32 := 0#32
  let v221 : BitVec 1 := Scalar.cmpi .slt v219 c0_i32_216
  let c0_i32_217 : BitVec 32 := 0#32
  let v222 : BitVec 1 := Scalar.cmpi .slt v218 c0_i32_217
  let v223 : BitVec 1 := Scalar.xori v221 v222
  let c0_i32_215 : BitVec 32 := 0#32
  let v220 : BitVec 1 := Scalar.cmpi .ne v219 c0_i32_215
  let v224 : BitVec 1 := Scalar.andi v223 v220
  let v225 : BitVec 32 := Scalar.addi v219 v218
  let v226 : BitVec 32 := Scalar.select v224 v225 v219
  let c1_i32_225 : BitVec 32 := 1#32
  let v227 : BitVec 32 := Scalar.muli v226 c1_i32_225
  let v228 : BitVec 32 := Scalar.addi c0_i32_226 v227
  v228.toNat
def k0_dev8 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_231 : BitVec 32 := 2#32
  let v237 : BitVec 32 := Scalar.addi v2 c2_i32_231
  let c4_i32_232 : BitVec 32 := 4#32
  let c0_i32_233 : BitVec 32 := 0#32
  let v238 : BitVec 1 := Scalar.cmpi .eq c4_i32_232 c0_i32_233
  let c1_i32_234 : BitVec 32 := 1#32
  let v239 : BitVec 32 := Scalar.select v238 c1_i32_234 c4_i32_232
  let v240 : BitVec 32 := Scalar.remsi v237 v239
  let c0_i32_236 : BitVec 32 := 0#32
  let v242 : BitVec 1 := Scalar.cmpi .slt v240 c0_i32_236
  let c0_i32_237 : BitVec 32 := 0#32
  let v243 : BitVec 1 := Scalar.cmpi .slt v239 c0_i32_237
  let v244 : BitVec 1 := Scalar.xori v242 v243
  let c0_i32_235 : BitVec 32 := 0#32
  let v241 : BitVec 1 := Scalar.cmpi .ne v240 c0_i32_235
  let v245 : BitVec 1 := Scalar.andi v244 v241
  let v246 : BitVec 32 := Scalar.addi v240 v239
  let v247 : BitVec 32 := Scalar.select v245 v246 v240
  let c1_i32_245 : BitVec 32 := 1#32
  let v248 : BitVec 32 := Scalar.muli v247 c1_i32_245
  let v249 : BitVec 32 := Scalar.addi c0_i32_246 v248
  v249.toNat
def k0_dev9 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_251 : BitVec 32 := 3#32
  let v258 : BitVec 32 := Scalar.addi v2 c3_i32_251
  let c4_i32_252 : BitVec 32 := 4#32
  let c0_i32_253 : BitVec 32 := 0#32
  let v259 : BitVec 1 := Scalar.cmpi .eq c4_i32_252 c0_i32_253
  let c1_i32_254 : BitVec 32 := 1#32
  let v260 : BitVec 32 := Scalar.select v259 c1_i32_254 c4_i32_252
  let v261 : BitVec 32 := Scalar.remsi v258 v260
  let c0_i32_256 : BitVec 32 := 0#32
  let v263 : BitVec 1 := Scalar.cmpi .slt v261 c0_i32_256
  let c0_i32_257 : BitVec 32 := 0#32
  let v264 : BitVec 1 := Scalar.cmpi .slt v260 c0_i32_257
  let v265 : BitVec 1 := Scalar.xori v263 v264
  let c0_i32_255 : BitVec 32 := 0#32
  let v262 : BitVec 1 := Scalar.cmpi .ne v261 c0_i32_255
  let v266 : BitVec 1 := Scalar.andi v265 v262
  let v267 : BitVec 32 := Scalar.addi v261 v260
  let v268 : BitVec 32 := Scalar.select v266 v267 v261
  let c1_i32_265 : BitVec 32 := 1#32
  let v269 : BitVec 32 := Scalar.muli v268 c1_i32_265
  let v270 : BitVec 32 := Scalar.addi c0_i32_266 v269
  v270.toNat
def k0_dev10 (d0 : Dev nD) : Nat :=
  let c0_i32_359 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_344 : BitVec 32 := 1#32
  let v339 : BitVec 32 := Scalar.addi v2 c1_i32_344
  let c4_i32_345 : BitVec 32 := 4#32
  let c0_i32_346 : BitVec 32 := 0#32
  let v340 : BitVec 1 := Scalar.cmpi .eq c4_i32_345 c0_i32_346
  let c1_i32_347 : BitVec 32 := 1#32
  let v341 : BitVec 32 := Scalar.select v340 c1_i32_347 c4_i32_345
  let v342 : BitVec 32 := Scalar.remsi v339 v341
  let c0_i32_349 : BitVec 32 := 0#32
  let v344 : BitVec 1 := Scalar.cmpi .slt v342 c0_i32_349
  let c0_i32_350 : BitVec 32 := 0#32
  let v345 : BitVec 1 := Scalar.cmpi .slt v341 c0_i32_350
  let v346 : BitVec 1 := Scalar.xori v344 v345
  let c0_i32_348 : BitVec 32 := 0#32
  let v343 : BitVec 1 := Scalar.cmpi .ne v342 c0_i32_348
  let v347 : BitVec 1 := Scalar.andi v346 v343
  let v348 : BitVec 32 := Scalar.addi v342 v341
  let v349 : BitVec 32 := Scalar.select v347 v348 v342
  let c1_i32_358 : BitVec 32 := 1#32
  let v350 : BitVec 32 := Scalar.muli v349 c1_i32_358
  let v351 : BitVec 32 := Scalar.addi c0_i32_359 v350
  v351.toNat
def k0_dev11 (d0 : Dev nD) : Nat :=
  let c0_i32_379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_364 : BitVec 32 := 2#32
  let v360 : BitVec 32 := Scalar.addi v2 c2_i32_364
  let c4_i32_365 : BitVec 32 := 4#32
  let c0_i32_366 : BitVec 32 := 0#32
  let v361 : BitVec 1 := Scalar.cmpi .eq c4_i32_365 c0_i32_366
  let c1_i32_367 : BitVec 32 := 1#32
  let v362 : BitVec 32 := Scalar.select v361 c1_i32_367 c4_i32_365
  let v363 : BitVec 32 := Scalar.remsi v360 v362
  let c0_i32_369 : BitVec 32 := 0#32
  let v365 : BitVec 1 := Scalar.cmpi .slt v363 c0_i32_369
  let c0_i32_370 : BitVec 32 := 0#32
  let v366 : BitVec 1 := Scalar.cmpi .slt v362 c0_i32_370
  let v367 : BitVec 1 := Scalar.xori v365 v366
  let c0_i32_368 : BitVec 32 := 0#32
  let v364 : BitVec 1 := Scalar.cmpi .ne v363 c0_i32_368
  let v368 : BitVec 1 := Scalar.andi v367 v364
  let v369 : BitVec 32 := Scalar.addi v363 v362
  let v370 : BitVec 32 := Scalar.select v368 v369 v363
  let c1_i32_378 : BitVec 32 := 1#32
  let v371 : BitVec 32 := Scalar.muli v370 c1_i32_378
  let v372 : BitVec 32 := Scalar.addi c0_i32_379 v371
  v372.toNat
def k0_dev12 (d0 : Dev nD) : Nat :=
  let c0_i32_399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_384 : BitVec 32 := 3#32
  let v381 : BitVec 32 := Scalar.addi v2 c3_i32_384
  let c4_i32_385 : BitVec 32 := 4#32
  let c0_i32_386 : BitVec 32 := 0#32
  let v382 : BitVec 1 := Scalar.cmpi .eq c4_i32_385 c0_i32_386
  let c1_i32_387 : BitVec 32 := 1#32
  let v383 : BitVec 32 := Scalar.select v382 c1_i32_387 c4_i32_385
  let v384 : BitVec 32 := Scalar.remsi v381 v383
  let c0_i32_389 : BitVec 32 := 0#32
  let v386 : BitVec 1 := Scalar.cmpi .slt v384 c0_i32_389
  let c0_i32_390 : BitVec 32 := 0#32
  let v387 : BitVec 1 := Scalar.cmpi .slt v383 c0_i32_390
  let v388 : BitVec 1 := Scalar.xori v386 v387
  let c0_i32_388 : BitVec 32 := 0#32
  let v385 : BitVec 1 := Scalar.cmpi .ne v384 c0_i32_388
  let v389 : BitVec 1 := Scalar.andi v388 v385
  let v390 : BitVec 32 := Scalar.addi v384 v383
  let v391 : BitVec 32 := Scalar.select v389 v390 v384
  let c1_i32_398 : BitVec 32 := 1#32
  let v392 : BitVec 32 := Scalar.muli v391 c1_i32_398
  let v393 : BitVec 32 := Scalar.addi c0_i32_399 v392
  v393.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S128x128 : Shape := ⟨2, ![128, 128]⟩
abbrev S128x1024 : Shape := ⟨2, ![128, 1024]⟩
abbrev S1024x128 : Shape := ⟨2, ![1024, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S128x128, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x128, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Common.lean ====
/-
The vocabulary of the proof of `kernel`: its peers, its buffers' slots, its semaphores, and the values that pass
through them.

Four devices hold one column block of each first weight and one row block of each second weight. On every one of three
layers a device multiplies the activations by its blocks, sends the partial product to its three peers, receives theirs
and adds the four. Every layer has its own send slot, and every pair of a layer and a distance its own landing slot and its
own send and receive semaphore, so each of these semaphores counts one transfer. The weights come in by six local copies
with a semaphore each. At the start every device tells its peers through the barrier semaphore that its landing slots are free.

Distances are written `k` for `k + 1`: device `c` sends at `k` to `pe c k`, `k + 1` places further on.
-/
module

public import proofs.«01_k».proof.Proof.Gen.Kernel
public import proofs.«01_k».proof.Proof.Gen.Kernel.Skeleton
public import proofs.«01_k».proof.Proof.Gen.Kernel.Launch
public import Idealize.ShloMosaic.Lib.Pipeline.Launch
public import Idealize.ShloMosaic.Lib.Pipeline.Kit
public import Idealize.ShloMosaic.Lib.Tactic

@[expose] public section

noncomputable section

namespace Cert.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline's copy and the exchange's -/

/-- The exchange's rounds: a cell of a round has up to three duties. -/
abbrev UB : Type := URounds (GSem nD τ sig) (Fin 3)
/-- The pipeline library's copy beside the exchange's. -/
abbrev UU : Type := UR sig nD τ × UB

local notation "𝕄" => MT nD τ sig Unit (Elt F) ℕ UU ℕ

/-- The pipeline's part of the resources, -/
abbrev EP : Emb (UR sig nD τ) (MT nD τ sig Unit (Elt F) ℕ UU ℕ) := embL
/-- and the exchange's. -/
abbrev ER : Emb UB (MT nD τ sig Unit (Elt F) ℕ UU ℕ) := embR

/-! ## Peers -/

set_option backward.proofsInPublic true in
/-- The device `k + 1` places after `c`. -/
def pe (c : Dev nD) (k : Fin 3) : Dev nD := ⟨(c.val + (k.val + 1)) % 4, Nat.mod_lt _ (by decide)⟩

/-- Going `k + 1` places on and then the remaining `3 - k` places comes back. -/
theorem pe_rev (c : Dev nD) (k : Fin 3) : pe (pe c k) k.rev = c := by revert c k; decide
/-- The same from the other side. -/
theorem rev_pe (c : Dev nD) (k : Fin 3) : pe (pe c k.rev) k = c := by revert c k; decide
theorem pe_ne (c : Dev nD) (k : Fin 3) : pe c k ≠ c := by revert c k; decide

/-- Distance `k + 1` as a permutation of the devices. -/
def turn (k : Fin 3) : Dev nD ≃ Dev nD := ⟨fun c => pe c k, fun c => pe c k.rev, fun c => pe_rev c k, fun c => rev_pe c k⟩

/-- The device a signal names: at distance 1, -/
theorem dev1_eq (c : Dev nD) : (⟨k0_dev1 c, k0_dev1_lt c⟩ : Dev nD) = pe c 0 := by revert c; decide +kernel
/-- at distance 2, -/
theorem dev2_eq (c : Dev nD) : (⟨k0_dev2 c, k0_dev2_lt c⟩ : Dev nD) = pe c 1 := by revert c; decide +kernel
/-- at distance 3; -/
theorem dev3_eq (c : Dev nD) : (⟨k0_dev3 c, k0_dev3_lt c⟩ : Dev nD) = pe c 2 := by revert c; decide +kernel
/-- the device a send names, on each layer at distances 1, 2 and 3. -/
theorem dev4_eq (c : Dev nD) : (⟨k0_dev4 c, k0_dev4_lt c⟩ : Dev nD) = pe c 0 := by revert c; decide +kernel
theorem dev5_eq (c : Dev nD) : (⟨k0_dev5 c, k0_dev5_lt c⟩ : Dev nD) = pe c 1 := by revert c; decide +kernel
theorem dev6_eq (c : Dev nD) : (⟨k0_dev6 c, k0_dev6_lt c⟩ : Dev nD) = pe c 2 := by revert c; decide +kernel
theorem dev7_eq (c : Dev nD) : (⟨k0_dev7 c, k0_dev7_lt c⟩ : Dev nD) = pe c 0 := by revert c; decide +kernel
theorem dev8_eq (c : Dev nD) : (⟨k0_dev8 c, k0_dev8_lt c⟩ : Dev nD) = pe c 1 := by revert c; decide +kernel
theorem dev9_eq (c : Dev nD) : (⟨k0_dev9 c, k0_dev9_lt c⟩ : Dev nD) = pe c 2 := by revert c; decide +kernel
theorem dev10_eq (c : Dev nD) : (⟨k0_dev10 c, k0_dev10_lt c⟩ : Dev nD) = pe c 0 := by revert c; decide +kernel
theorem dev11_eq (c : Dev nD) : (⟨k0_dev11 c, k0_dev11_lt c⟩ : Dev nD) = pe c 1 := by revert c; decide +kernel
theorem dev12_eq (c : Dev nD) : (⟨k0_dev12 c, k0_dev12_lt c⟩ : Dev nD) = pe c 2 := by revert c; decide +kernel

/-! ## Slots: one slice of a buffer, its unit axes dropped -/

section Slot

variable {κ : Kind} {sp : Space} {s s' : Shape} {e : EltTy} {Val : EltTy → Type}

/-- An array with unit axes, from the same array without them; -/
def widen {s₁ s₂ : Shape} {α : Type} (h : s₂.numel = s₁.numel) (X : s₂.Idx → α) : s₁.Idx → α := fun j => X ((Shape.reshapeEquiv h).symm j)
/-- and without them, from the one with. -/
def narrow {s₁ s₂ : Shape} {α : Type} (h : s₂.numel = s₁.numel) (Y : s₁.Idx → α) : s₂.Idx → α := fun x => Y (Shape.reshapeEquiv h x)

theorem narrow_widen {s₁ s₂ : Shape} {α : Type} (h : s₂.numel = s₁.numel) (X : s₂.Idx → α) : narrow h (widen h X) = X := by
  funext x; unfold narrow widen; rw [Equiv.symm_apply_apply]
theorem widen_narrow {s₁ s₂ : Shape} {α : Type} (h : s₂.numel = s₁.numel) (Y : s₁.Idx → α) : widen h (narrow h Y) = Y := by
  funext x; exact congrArg Y (Equiv.apply_symm_apply _ _)

/-- What the squeezed slice reads, read through the slice's own box: the array with its unit axes. -/
theorem readAt_slot (M : Memref sig κ sp s e) (r : Rect s) (hr : ∀ a, r.stride a = 1) (h : r.shape.Squeezes s')
    (f : M.view.ty.Contents Val) :
    M.view.readAt Val r.toLoadRect f = widen h.numel_eq (((M.slice r hr).squeeze s' h).view.read Val f) := by
  funext j
  show (M.access r).read Val f j = (M.access r).read Val f (Shape.reshapeEquiv h.numel_eq ((Shape.reshapeEquiv h.numel_eq).symm j))
  rw [Equiv.apply_symm_apply]

/-- What a store through the box leaves for the squeezed slice to read. -/
theorem read_store_slot (M : Memref sig κ sp s e) (r : Rect s) (hr : ∀ a, r.stride a = 1) (h : r.shape.Squeezes s')
    (f : M.view.ty.Contents Val) (w : r.shape.Idx → Val e) :
    ((M.slice r hr).squeeze s' h).view.read Val ((M.access r).write Val f w Finset.univ) = narrow h.numel_eq w := by
  funext x
  show (M.access r).read Val ((M.access r).write Val f w Finset.univ) (Shape.reshapeEquiv h.numel_eq x) = _
  rw [View.read_write_univ]; rfl

/-- The squeezed slice's elements are the box's. -/
theorem set_slot (M : Memref sig κ sp s e) (r : Rect s) (hr : ∀ a, r.stride a = 1) (h : r.shape.Squeezes s') :
    ((M.slice r hr).squeeze s' h).view.set = (M.access r).set :=
  View.set_reshape (M.access r) _

end Slot

theorem inb_win (l : Fin 3) : ∀ a, (![l.val, 0, 0] : Fin 3 → ℕ) a + S1x128x256.size a ≤ S3x128x256.size a := by revert l; decide
theorem inb_wout (l : Fin 3) : ∀ a, (![l.val, 0, 0] : Fin 3 → ℕ) a + S1x256x128.size a ≤ S3x256x128.size a := by revert l; decide
theorem inb_send (l : Fin 3) : ∀ a, (![l.val, 0, 0] : Fin 3 → ℕ) a + S1x128x128.size a ≤ S3x128x128.size a := by revert l; decide
theorem inb_comm (l k : Fin 3) : ∀ a, (![l.val, k.val, 0, 0] : Fin 4 → ℕ) a + S1x1x128x128.size a ≤ S3x3x128x128.size a := by revert l k; decide
theorem inb_sem (l k : Fin 3) : ∀ a, (![l.val, k.val] : Fin 2 → ℕ) a + S1x1.size a ≤ S3x3.size a := by revert l k; decide
theorem inb_wsem (i : Fin 2) (l : Fin 3) : ∀ a, (![i.val, l.val] : Fin 2 → ℕ) a + S1x1.size a ≤ S2x3.size a := by revert i l; decide

/-- The boxes of the four scratch buffers. -/
abbrev winR (l : Fin 3) : Rect S3x128x256 := Rect.unit (s := S3x128x256) ![l.val, 0, 0] S1x128x256.size (inb_win l)
abbrev woutR (l : Fin 3) : Rect S3x256x128 := Rect.unit (s := S3x256x128) ![l.val, 0, 0] S1x256x128.size (inb_wout l)
abbrev sendR (l : Fin 3) : Rect S3x128x128 := Rect.unit (s := S3x128x128) ![l.val, 0, 0] S1x128x128.size (inb_send l)
abbrev commR (l k : Fin 3) : Rect S3x3x128x128 := Rect.unit (s := S3x3x128x128) ![l.val, k.val, 0, 0] S1x1x128x128.size (inb_comm l k)

/-- The buffers: both weights' staging, the send slots, the landing slots. -/
abbrev winB : Memref sig .tc .vmem S3x128x256 .f32 := Memref.whole cc0_scratch0
abbrev woutB : Memref sig .tc .vmem S3x256x128 .f32 := Memref.whole cc0_scratch1
abbrev sendB : Memref sig .tc .vmem S3x128x128 .bf16 := Memref.whole cc0_scratch3
abbrev commB : Memref sig .tc .vmem S3x3x128x128 .bf16 := Memref.whole cc0_scratch4

/-- Layer `l`'s slot for its first weight, -/
abbrev winM (l : Fin 3) : Memref sig .tc .vmem S128x256 .f32 := (winB.slice (winR l) (fun _ => rfl)).squeeze S128x256 squeezes_S1x128x256_S128x256
/-- for its second, -/
abbrev woutM (l : Fin 3) : Memref sig .tc .vmem S256x128 .f32 := (woutB.slice (woutR l) (fun _ => rfl)).squeeze S256x128 squeezes_S1x256x128_S256x128
/-- its send slot, -/
abbrev sendM (l : Fin 3) : Memref sig .tc .vmem S128x128 .bf16 := (sendB.slice (sendR l) (fun _ => rfl)).squeeze S128x128 squeezes_S1x128x128_S128x128
/-- and its landing slot for the partial product coming from `k + 1` places before. -/
abbrev commM (l k : Fin 3) : Memref sig .tc .vmem S128x128 .bf16 :=
  (commB.slice (commR l k) (fun _ => rfl)).squeeze S128x128 squeezes_S1x1x128x128_S128x128

/-- The weights' arrays in HBM: layer `l`'s first, -/
abbrev winH : Fin 3 → Memref sig .tc .hbm S128x256 .f32
  | 0 => Memref.whole main_arg1 | 1 => Memref.whole main_arg2 | 2 => Memref.whole main_arg3
/-- and second. -/
abbrev woutH : Fin 3 → Memref sig .tc .hbm S256x128 .f32
  | 0 => Memref.whole main_arg4 | 1 => Memref.whole main_arg5 | 2 => Memref.whole main_arg6

/-! ## Semaphores -/

/-- The runtime's barrier semaphore of collective 0. -/
abbrev barS : Sem sig := (SemArray.scalar (sig.barrier 0 rfl) : Sems sig S_).sem
/-- The semaphore of layer `l`'s first-weight copy, -/
abbrev wiS (l : Fin 3) : DmaSem sig := ((cc0_scratch2.slice (Rect.unit (s := S2x3) ![0, l.val] S1x1.size (inb_wsem 0 l))).squeeze S_ squeezes_S1x1_S_).sem
/-- of its second-weight copy, -/
abbrev woS (l : Fin 3) : DmaSem sig := ((cc0_scratch2.slice (Rect.unit (s := S2x3) ![1, l.val] S1x1.size (inb_wsem 1 l))).squeeze S_ squeezes_S1x1_S_).sem
/-- of its send at distance `k + 1`, -/
abbrev sdS (l k : Fin 3) : DmaSem sig := ((cc0_scratch5.slice (Rect.unit (s := S3x3) ![l.val, k.val] S1x1.size (inb_sem l k))).squeeze S_ squeezes_S1x1_S_).sem
/-- and of the arrival at its landing slot `k`. -/
abbrev rvS (l k : Fin 3) : DmaSem sig := ((cc0_scratch6.slice (Rect.unit (s := S3x3) ![l.val, k.val] S1x1.size (inb_sem l k))).squeeze S_ squeezes_S1x1_S_).sem

theorem wiS_eq (l : Fin 3) : wiS l = (⟨2 + l.val, by have := l.2; show 2 + l.val < 26; omega⟩ : Fin 26) := by fin_cases l <;> rfl
theorem woS_eq (l : Fin 3) : woS l = (⟨5 + l.val, by have := l.2; show 5 + l.val < 26; omega⟩ : Fin 26) := by fin_cases l <;> rfl
theorem sdS_eq (l k : Fin 3) : sdS l k = (⟨8 + (3 * l.val + k.val), by have := l.2; have := k.2; show 8 + (3 * l.val + k.val) < 26; omega⟩ : Fin 26) := by
  fin_cases l <;> fin_cases k <;> rfl
theorem rvS_eq (l k : Fin 3) : rvS l k = (⟨17 + (3 * l.val + k.val), by have := l.2; have := k.2; show 17 + (3 * l.val + k.val) < 26; omega⟩ : Fin 26) := by
  fin_cases l <;> fin_cases k <;> rfl

/-- The kernel's own semaphores: first- and second-weight copies, sends, arrivals; -/
abbrev OC : Type := (Fin 3 ⊕ Fin 3) ⊕ ((Fin 3 × Fin 3) ⊕ (Fin 3 × Fin 3))
/-- and all that the protocol uses, the barrier first. -/
abbrev AC : Type := Unit ⊕ OC

abbrev wiC (l : Fin 3) : AC := .inr (.inl (.inl l))
abbrev woC (l : Fin 3) : AC := .inr (.inl (.inr l))
abbrev sdC (l k : Fin 3) : AC := .inr (.inr (.inl (l, k)))
abbrev rvC (l k : Fin 3) : AC := .inr (.inr (.inr (l, k)))
abbrev brC : AC := .inl ()

/-- The semaphore of each. -/
def osem : OC → SemLoc sig
  | .inl (.inl l) => .dma (wiS l) | .inl (.inr l) => .dma (woS l) | .inr (.inl x) => .dma (sdS x.1 x.2) | .inr (.inr x) => .dma (rvS x.1 x.2)
/-- The same, the barrier's among them. -/
def csem : AC → SemLoc sig
  | .inl _ => .reg barS | .inr o => osem o

/-- A DMA semaphore's number: how the kernel's own are told apart. -/
def onum : OC → ℕ
  | .inl (.inl l) => 2 + l.val | .inl (.inr l) => 5 + l.val | .inr (.inl x) => 8 + (3 * x.1.val + x.2.val) | .inr (.inr x) => 17 + (3 * x.1.val + x.2.val)

theorem onum_lt (o : OC) : 2 ≤ onum o ∧ onum o < 26 := by revert o; decide
theorem onum_inj : ∀ o o' : OC, onum o = onum o' → o = o' := by decide +kernel
theorem osem_eq (o : OC) : osem o = SemLoc.dma (⟨onum o, (onum_lt o).2⟩ : Fin 26) := by
  rcases o with (l | l) | x | x
  · exact congrArg SemLoc.dma (wiS_eq l)
  · exact congrArg SemLoc.dma (woS_eq l)
  · exact congrArg SemLoc.dma (sdS_eq x.1 x.2)
  · exact congrArg SemLoc.dma (rvS_eq x.1 x.2)

/-- The kernel's own semaphores are pairwise distinct, -/
theorem osem_inj : Function.Injective osem := fun o o' h => by
  rw [osem_eq, osem_eq] at h
  injection h with h
  exact onum_inj o o' (congrArg Fin.val h)
/-- and so are all the protocol's. -/
theorem csem_inj : Function.Injective csem := fun a a' h => by
  rcases a with a | a <;> rcases a' with a' | a'
  · rfl
  · change SemLoc.reg barS = osem a' at h; rw [osem_eq] at h; cases h
  · change osem a = SemLoc.reg barS at h; rw [osem_eq] at h; cases h
  · exact congrArg Sum.inr (osem_inj h)

/-- Which of the protocol's semaphores one is, if any. -/
def role : SemLoc sig → Option AC := Function.partialInv csem
theorem role_csem (a : AC) : role (csem a) = some a := Function.partialInv_left csem_inj a
theorem role_wi (l : Fin 3) : role (.dma (wiS l)) = some (wiC l) := role_csem (wiC l)
theorem role_wo (l : Fin 3) : role (.dma (woS l)) = some (woC l) := role_csem (woC l)
theorem role_sd (l k : Fin 3) : role (.dma (sdS l k)) = some (sdC l k) := role_csem (sdC l k)
theorem role_rv (l k : Fin 3) : role (.dma (rvS l k)) = some (rvC l k) := role_csem (rvC l k)
theorem role_br : role (.reg barS) = some brC := role_csem brC

/-- Device `c`'s counter of each. -/
abbrev kcell (c : Dev nD) (a : AC) : GSem nD τ sig := ((c : Thread nD τ), csem a)

/-! ## Values -/

variable (m : (ℓ : Loc nD τ sig) → Buf (Elt F) ℓ)

/-- The activations device `c` is given, -/
def xin (c : Dev nD) : Vec F S128x128 .f32 := m ((c : Thread nD τ).loc main_arg0)
/-- its block of layer `l`'s first weight, -/
def winV (c : Dev nD) (l : Fin 3) : Vec F S128x256 .f32 := (winH l).view.read (Elt F) (m ((winH l).view.loc (c : Thread nD τ)))
/-- and of its second; -/
def woutV (c : Dev nD) (l : Fin 3) : Vec F S256x128 .f32 := (woutH l).view.read (Elt F) (m ((woutH l).view.loc (c : Thread nD τ)))
/-- both as the kernel loads them, with a unit axis. -/
def winW (c : Dev nD) (l : Fin 3) : Vec F S1x128x256 .f32 := widen squeezes_S1x128x256_S128x256.numel_eq (winV m c l)
def woutW (c : Dev nD) (l : Fin 3) : Vec F S1x256x128 .f32 := widen squeezes_S1x256x128_S256x128.numel_eq (woutV m c l)

/-- A partial product as a slot holds it, without unit axes; -/
abbrev Part (F : FTy → Type) [FloatOps F] : Type := S128x128.Idx → Elt F .bf16
/-- as it is stored, -/
def unsend (Y : Vec F S1x128x128 .bf16) : Part F := narrow squeezes_S1x128x128_S128x128.numel_eq Y
/-- and as it is loaded where it landed. -/
def land (X : Part F) : Vec F S1x1x128x128 .bf16 := widen squeezes_S1x1x128x128_S128x128.numel_eq X

/-- Layer 0: device `c`'s partial product, -/
def part0 (c : Dev nD) : FVec F S128x128 .f32 := k0_pay2 (k0_pay1 (xin m c) (winW m c 0)) (woutW m c 0)
/-- what it sends, -/
def sent0 (c : Dev nD) : Part F := unsend (k0_pay3 (k0_pay1 (xin m c) (winW m c 0)) (woutW m c 0))
/-- and what it loads from its landing slot `k`. -/
def recv0 (c : Dev nD) (k : Fin 3) : Vec F S1x1x128x128 .bf16 := land (sent0 m (pe c k.rev))
/-- Layer 1's activations, -/
def act1 (c : Dev nD) : FVec F S128x128 .bf16 := k0_pay4 (part0 m c) (recv0 m c 0) (recv0 m c 1) (recv0 m c 2)
/-- partial product, -/
def part1 (c : Dev nD) : FVec F S128x128 .f32 := k0_pay5 (act1 m c) (winW m c 1) (woutW m c 1)
def sent1 (c : Dev nD) : Part F := unsend (k0_pay6 (act1 m c) (winW m c 1) (woutW m c 1))
def recv1 (c : Dev nD) (k : Fin 3) : Vec F S1x1x128x128 .bf16 := land (sent1 m (pe c k.rev))
/-- Layer 2's partial product. -/
def part2 (c : Dev nD) : FVec F S128x128 .f32 :=
  k0_pay8 (part1 m c) (k0_pay7 (recv1 m c 0)) (recv1 m c 1) (recv1 m c 2) (winW m c 2) (woutW m c 2)
def sent2 (c : Dev nD) : Part F :=
  unsend (k0_pay10 (k0_pay9 (part1 m c) (k0_pay7 (recv1 m c 0)) (recv1 m c 1) (recv1 m c 2) (winW m c 2) (woutW m c 2)))
def recv2 (c : Dev nD) (k : Fin 3) : Vec F S1x1x128x128 .bf16 := land (sent2 m (pe c k.rev))
/-- The kernel's result on device `c`. -/
def outAt (c : Dev nD) : FVec F S128x128 .f32 := k0_pay11 (part2 m c) (recv2 m c 0) (recv2 m c 1) (recv2 m c 2)

/-- What device `c` sends on layer `l`. -/
def sent (c : Dev nD) : Fin 3 → Part F
  | 0 => sent0 m c | 1 => sent1 m c | 2 => sent2 m c

end Cert.Mlp
-- ==== Proof.Protocol.lean ====
/-
The protocol of `kernel`: what every semaphore's units hand to the device that waits for them, what every device owes its
peers, and the levels by which no wait can be circular.

- A barrier cell gets one unit from each of the three peers; with it the peer hands over the three landing slots (one per
  layer) into which the signalled device will send to it.
- An arrival cell gets its transfer's credit from one peer; with it comes the landing slot filled with that peer's partial product.
- A send cell gets its own device's credit; with it comes back the third of the send slot the transfer read.
- A weight cell gets the credit of a local copy; with it come the filled staging slot and the weight's array.

A device owes three barrier units and nine arrivals. It waits at its barrier while it still owes every arrival, and for
layer `l`'s arrivals while it owes those of later layers only: barrier cells are below arrival cells, and earlier layers
below later ones.
-/
module

public import proofs.«01_k».proof.Proof.Common

@[expose] public section

noncomputable section

namespace Cert.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Holding a memref -/

/-- Device `c` holds the memref's elements at share `q`, and they read `X`; -/
def held {sp : Space} {s : Shape} {e : EltTy} (M : Memref sig .tc sp s e) (c : Dev nD) (q : PosShare TreeShare) (X : s.Idx → Elt F e) : sProp 𝕄 :=
  M.view.loc (c : Thread nD τ) ↦[M.view.set]{q} M.view.rep X
/-- it holds them all, whatever they read. -/
def free {sp : Space} {s : Shape} {e : EltTy} (M : Memref sig .tc sp s e) (c : Dev nD) : sProp 𝕄 :=
  iprop(∃ f : Buf (Elt F) (M.view.loc (c : Thread nD τ)), M.view.loc (c : Thread nD τ) ↦[M.view.set]{fullShare} f)

section Held
variable {sp : Space} {s : Shape} {e : EltTy} (M : Memref sig .tc sp s e) (c : Dev nD)

instance held_storable (q : PosShare TreeShare) (X : s.Idx → Elt F e) : BI.Storable (upEmb : UEmb _ 𝕄) (held M c q X) := by unfold held; infer_instance
instance free_storable : BI.Storable (upEmb : UEmb _ 𝕄) (free (F := F) M c) := by unfold free; infer_instance

/-- Contents that read `X` through the memref are as good as any others that do. -/
theorem held_of (q : PosShare TreeShare) (f : Buf (Elt F) (M.view.loc (c : Thread nD τ))) (X : s.Idx → Elt F e) (h : M.view.read (Elt F) f = X) :
    (M.view.loc (c : Thread nD τ) ↦[M.view.set]{q} f : sProp 𝕄) ⊢ held M c q X := by
  unfold held; rw [pointsTo_rep (Ix := Unit) (Name := ℕ) (U := UU) (Lvl := ℕ) (c : Thread nD τ) M, h]

/-- Contents held are contents. -/
theorem held_free (X : s.Idx → Elt F e) : (held M c fullShare X : sProp 𝕄) ⊢ free M c := by
  unfold held free; iintro H; iexists _; iexact H

end Held

/-- The thirds of a send slot: one for each transfer that reads it. -/
def third : Fin 3 → PosShare TreeShare
  | 0 => fullShare.left | 1 => fullShare.right.left | 2 => fullShare.right.right

/-- A memref held whole is held in thirds. -/
theorem held_thirds {sp : Space} {s : Shape} {e : EltTy} (M : Memref sig .tc sp s e) (c : Dev nD) (X : s.Idx → Elt F e) :
    (held M c fullShare X : sProp 𝕄) ⊣⊢ iprop(held M c (third 0) X ∗ held M c (third 1) X ∗ held M c (third 2) X) := by
  have h₁ := pointsTo_share (Ix := Unit) (Name := ℕ) (U := UU) (Lvl := ℕ) (ℓ := M.view.loc (c : Thread nD τ)) (I := M.view.set)
    (f := M.view.rep X) (PosShare.mem_left_op_right fullShare)
  have h₂ := pointsTo_share (Ix := Unit) (Name := ℕ) (U := UU) (Lvl := ℕ) (ℓ := M.view.loc (c : Thread nD τ)) (I := M.view.set)
    (f := M.view.rep X) (PosShare.mem_left_op_right fullShare.right)
  unfold held third
  exact ⟨h₁.1.trans (sep_mono_right h₂.1), (sep_mono_right h₂.2).trans h₁.2⟩

/-- Layer `l`'s first-weight array on device `c`, at its contents at launch; -/
def hbmI (c : Dev nD) (l : Fin 3) : sProp 𝕄 :=
  (winH l).view.loc (c : Thread nD τ) ↦[(winH l).view.set]{fullShare} m ((winH l).view.loc (c : Thread nD τ))
/-- its second. -/
def hbmO (c : Dev nD) (l : Fin 3) : sProp 𝕄 :=
  (woutH l).view.loc (c : Thread nD τ) ↦[(woutH l).view.set]{fullShare} m ((woutH l).view.loc (c : Thread nD τ))

omit [FloatOps F] in
instance hbmI_storable (c : Dev nD) (l : Fin 3) : BI.Storable (upEmb : UEmb _ 𝕄) (hbmI m c l) := by unfold hbmI; infer_instance
omit [FloatOps F] in
instance hbmO_storable (c : Dev nD) (l : Fin 3) : BI.Storable (upEmb : UEmb _ 𝕄) (hbmO m c l) := by unfold hbmO; infer_instance

/-- The three landing slots for distance index `d` on device `c`, free. -/
def slots (c : Dev nD) (d : Fin 3) : sProp 𝕄 := iprop(free (F := F) (commM 0 d) c ∗ free (F := F) (commM 1 d) c ∗ free (F := F) (commM 2 d) c)

instance slots_storable (c : Dev nD) (d : Fin 3) : BI.Storable (upEmb : UEmb _ 𝕄) (slots (F := F) c d) := by unfold slots; infer_instance

/-! ## The schedule -/

/-- What the units of a cell hand to device `c`, by the cell's role (and at the barrier by the duty `d`: which peer pays it). -/
def pay (c : Dev nD) (d : Fin 3) : Option AC → sProp 𝕄
  | none => iprop(emp)
  | some (.inl _) => slots (pe c d) d
  | some (.inr (.inl (.inl l))) => iprop(held (winM l) c fullShare (winV m c l) ∗ hbmI m c l)
  | some (.inr (.inl (.inr l))) => iprop(held (woutM l) c fullShare (woutV m c l) ∗ hbmO m c l)
  | some (.inr (.inr (.inl x))) => held (sendM x.1) c (third x.2) (sent m c x.1)
  | some (.inr (.inr (.inr x))) => held (commM x.1 x.2) c fullShare (sent m (pe c x.2.rev) x.1)

/-- The units of one duty, by role: a transfer's credit, one unit at the barrier. -/
def amt : Option AC → ℕ
  | none => 1
  | some (.inl _) => 1
  | some (.inr (.inl (.inl l))) => (winM l).view.dmaCredit
  | some (.inr (.inl (.inr l))) => (woutM l).view.dmaCredit
  | some (.inr (.inr (.inl x))) => (commM x.1 x.2).view.dmaCredit
  | some (.inr (.inr (.inr x))) => (commM x.1 x.2).view.dmaCredit

/-- The duties, by role: three at the barrier, one at every other cell. -/
def dut : Option AC → Finset (Fin 3)
  | none => ∅ | some (.inl _) => Finset.univ | some (.inr _) => {0}

theorem amt_pos (r : Option AC) : 0 < amt r := by
  rcases r with _ | _ | (l | l) | x | x
  · exact Nat.one_pos
  · exact Nat.one_pos
  · exact View.dmaCredit_pos _ (by show 0 < S128x256.numel; decide)
  · exact View.dmaCredit_pos _ (by show 0 < S256x128.numel; decide)
  · exact View.dmaCredit_pos _ (by show 0 < S128x128.numel; decide)
  · exact View.dmaCredit_pos _ (by show 0 < S128x128.numel; decide)

/-- One round of duties at every cell of the protocol. -/
def xRd : Rounds.Schedule (GSem nD τ sig) (Fin 3) 𝕄 where
  duties g r := if r = 0 ∧ g.1.2 = .tc then dut (role g.2) else ∅
  unitless _ := False
  amount g _ _ := amt (role g.2)
  payload g _ d := pay m g.1.1 d (role g.2)
  amount_pos g _ _ _ := amt_pos _

instance pay_storable (c : Dev nD) (d : Fin 3) (r : Option AC) : BI.Storable (upEmb : UEmb _ 𝕄) (pay m c d r) := by
  rcases r with _ | _ | (l | l) | x | x <;> (unfold pay; infer_instance)
instance xRd_payload_storable (g : GSem nD τ sig) (r : ℕ) (d : Fin 3) : BI.Storable (upEmb : UEmb _ 𝕄) ((xRd m).payload g r d) :=
  pay_storable m g.1.1 d (role g.2)

theorem duties_cell (c : Dev nD) (a : AC) : (xRd m).duties (kcell c a) 0 = dut (some a) := by
  show (if 0 = 0 ∧ ((c : Thread nD τ)).2 = .tc then dut (role (csem a)) else ∅) = _
  rw [if_pos ⟨rfl, rfl⟩, role_csem]
theorem duties_later (g : GSem nD τ sig) : ∀ r, 1 ≤ r → (xRd m).duties g r = ∅ :=
  fun r hr => if_neg fun h => by omega
theorem amount_cell (c : Dev nD) (a : AC) (d : Fin 3) : (xRd m).amount (kcell c a) 0 d = amt (some a) := by
  show amt (role (csem a)) = _; rw [role_csem]
theorem payload_cell (c : Dev nD) (a : AC) (d : Fin 3) : (xRd m).payload (kcell c a) 0 d = pay m c d (some a) := by
  show pay m c d (role (csem a)) = _; rw [role_csem]

/-- What a wait at one of the kernel's own cells is for, -/
theorem expect_own (c : Dev nD) (o : OC) : (xRd m).expect (kcell c (.inr o)) 0 = amt (some (.inr o)) := by
  unfold Schedule.expect Schedule.amountOf
  rw [duties_cell]
  show ∑ d ∈ ({0} : Finset (Fin 3)), _ = _
  rw [Finset.sum_singleton, amount_cell]
/-- and at the barrier. -/
theorem expect_bar (c : Dev nD) : (xRd m).expect (kcell c brC) 0 = 3 := by
  unfold Schedule.expect Schedule.amountOf
  rw [duties_cell, Finset.sum_congr rfl fun d _ => amount_cell m c brC d]
  show ∑ d ∈ (Finset.univ : Finset (Fin 3)), 1 = 3
  decide

/-- All that such a wait returns: the one payload, -/
theorem rest_own (c : Dev nD) (o : OC) :
    bigSep ((xRd m).duties (kcell c (.inr o)) 0 \ ∅) (fun d => (xRd m).payload (kcell c (.inr o)) 0 d) = pay m c 0 (some (.inr o)) := by
  rw [Finset.sdiff_empty, duties_cell]
  show bigSep ({0} : Finset (Fin 3)) _ = _
  rw [bigSep_singleton, payload_cell]
/-- at the barrier the landing slots on the three peers. -/
theorem rest_bar (c : Dev nD) :
    bigSep ((xRd m).duties (kcell c brC) 0 \ ∅) (fun d => (xRd m).payload (kcell c brC) 0 d)
      = iprop(slots (pe c 0) 0 ∗ slots (pe c 1) 1 ∗ slots (pe c 2) 2) := by
  rw [Finset.sdiff_empty, duties_cell]
  show bigSep (Finset.univ : Finset (Fin 3)) _ = _
  rw [bigSep_univ_eq_bigSepL [0, 1, 2] (by decide) (by decide), bigSepL_cons_cons, bigSepL_cons_cons, bigSepL_singleton,
    payload_cell, payload_cell, payload_cell]
  rfl

/-- A send slot's credit is its landing slot's. -/
theorem credit_send (l k : Fin 3) : (sendM l).view.dmaCredit = (commM l k).view.dmaCredit := rfl

/-! ## What a device owes -/

/-- A payment to a peer: a barrier unit at a distance, or a layer's transfer at a distance. -/
abbrev Pay : Type := Fin 3 ⊕ (Fin 3 × Fin 3)

/-- The cell it goes to, -/
def payCell (c : Dev nD) : Pay → GSem nD τ sig
  | .inl k => kcell (pe c k) brC | .inr x => kcell (pe c x.2) (rvC x.1 x.2)
/-- and its units. -/
def payAmt : Pay → ℕ
  | .inl _ => 1 | .inr x => (commM x.1 x.2).view.dmaCredit

/-- What is still owed when the payments `L` are still to be made. -/
def owed (c : Dev nD) : List Pay → CellTallies nD τ sig Unit
  | [] => 0 | p :: L => owed c L + tallyAt (payCell c p) () (payAmt p)

/-- The payments in the order the kernel makes them: all, -/
abbrev due : List Pay := [.inl 0, .inl 1, .inl 2, .inr (0, 0), .inr (0, 1), .inr (0, 2), .inr (1, 0), .inr (1, 1), .inr (1, 2), .inr (2, 0), .inr (2, 1), .inr (2, 2)]

theorem owed_pos {c : Dev nD} {L : List Pay} {g : GSem nD τ sig} {u : Unit} (h : 0 < owed c L g u) : ∃ p ∈ L, g = payCell c p := by
  induction L with
  | nil => exact absurd h (Nat.lt_irrefl 0)
  | cons p L ih =>
    unfold owed at h
    rw [Pi.add_apply, Finsupp.add_apply, tallyAt_apply] at h
    by_cases hg : g = payCell c p ∧ u = ()
    · exact ⟨p, List.mem_cons_self, hg.1⟩
    · rw [if_neg hg, Nat.add_zero] at h
      obtain ⟨p', hp', e⟩ := ih h
      exact ⟨p', List.mem_cons_of_mem _ hp', e⟩

/-! ## Levels -/

/-- A cell's level, by role: the barrier 1, layer `l`'s arrivals `2 + l`, every other 0. -/
def rank : Option AC → ℕ
  | some (.inl _) => 1
  | some (.inr (.inr (.inr x))) => 2 + x.1.val
  | _ => 0
/-- The level of the cell a payment goes to. -/
def payRank : Pay → ℕ
  | .inl _ => 1 | .inr x => 2 + x.1.val

def L (g : GSem nD τ sig) : Finset Unit := if g.1.2 = .tc then {()} else ∅
def lv (g : GSem nD τ sig) (_ : Unit) : ℕ := rank (role g.2)

theorem L_of_ne (g : GSem nD τ sig) (h : g.1.2 ≠ .tc) : L g = ∅ := if_neg h
theorem L_tc (c : Dev nD) (sm : SemLoc sig) : L ((c : Thread nD τ), sm) = {()} := if_pos rfl
theorem L_pay (c : Dev nD) (p : Pay) : L (payCell c p) = {()} := by rcases p with k | x <;> exact L_tc _ _
theorem lv_pay (c : Dev nD) (p : Pay) (u : Unit) : lv (payCell c p) u = payRank p := by
  rcases p with k | x
  · show rank (role (csem brC)) = _; rw [role_csem]; rfl
  · show rank (role (csem (rvC x.1 x.2))) = _; rw [role_csem]; rfl

/-- A device may wait at a cell below every payment it still has to make. -/
theorem mayWait (c : Dev nD) (sm : SemLoc sig) (Ls : List Pay) (h : ∀ p ∈ Ls, rank (role sm) < payRank p) :
    (levAts L lv : sProp 𝕄) ⊢ MayWait (c : Thread nD τ) sm () (owed c Ls) :=
  MayOwe.of_cut (L := L) (lev := lv) (rank (role sm)) (fun p hp => by rw [Finset.mem_singleton.mp hp, L_tc]; exact Finset.mem_singleton_self _)
    (fun g u hg => by obtain ⟨p, -, rfl⟩ := owed_pos hg; rw [L_pay]; exact Finset.mem_singleton_self _)
    (fun p hp => by rw [Finset.mem_singleton.mp hp]; exact Nat.le_refl _)
    (fun g u hg => by obtain ⟨p, hp, rfl⟩ := owed_pos hg; rw [lv_pay]; exact h p hp)

/-- The same at one of the protocol's cells. -/
theorem mayWait_cell (c : Dev nD) (a : AC) (Ls : List Pay) (h : ∀ p ∈ Ls, rank (some a) < payRank p) :
    (levAts L lv : sProp 𝕄) ⊢ MayWait (c : Thread nD τ) (csem a) () (owed c Ls) :=
  mayWait c (csem a) Ls fun p hp => by rw [role_csem]; exact h p hp

/-- The staging semaphores have no role in the protocol. -/
theorem role_stage (n : ℕ) (hn : n < 2) : role (SemLoc.dma (⟨n, by omega⟩ : Fin 26)) = none := by
  by_contra h
  obtain ⟨a, ha⟩ := Option.ne_none_iff_exists'.mp h
  have hc : csem a = SemLoc.dma (⟨n, by omega⟩ : Fin 26) := (Function.partialInv_of_injective csem_inj a _).mp ha
  rcases a with a | a
  · cases hc
  · change osem a = _ at hc
    rw [osem_eq] at hc
    injection hc with hc
    have := congrArg Fin.val hc
    have := onum_lt a
    simp only at *
    omega

theorem payRank_pos (p : Pay) : 0 < payRank p := by
  rcases p with k | x
  · exact Nat.one_pos
  · show 0 < 2 + x.1.val; omega

/-- At the staging waits a device may owe anything it ever owes. -/
theorem mayWait_stage (c : Dev nD) (n : ℕ) (hn : n < 2) (Ls : List Pay) :
    (levAts L lv : sProp 𝕄) ⊢ MayWait (c : Thread nD τ) (SemLoc.dma (⟨n, by omega⟩ : Fin 26)) () (owed c Ls) :=
  mayWait c _ Ls fun p _ => by rw [role_stage n hn]; exact payRank_pos p

/-! ## What is known of every cell -/

variable (K : Dev nD × AC → ℕ)

/-- Every cell's invariant, under the names `K`, and that every cell has reached its only round. -/
def known : sProp 𝕄 :=
  iprop(bigSep Finset.univ (fun x : Dev nD × AC => cellInv ER (xRd m) (K x) (kcell x.1 x.2))
    ∗ bigSep Finset.univ (fun x : Dev nD × AC => reached ER (kcell x.1 x.2) 0))

instance known_persistent : BI.Persistent (known m K) := by unfold known; infer_instance

theorem known_inv (c : Dev nD) (a : AC) : known m K ⊢ cellInv ER (xRd m) (K (c, a)) (kcell c a) := by
  unfold known
  exact sep_elim_left.trans (bigSep_elim (i := (c, a)) (Finset.mem_univ _))
theorem known_reached (c : Dev nD) (a : AC) : known m K ⊢ reached ER (kcell c a) 0 := by
  unfold known
  exact sep_elim_right.trans (bigSep_elim (i := (c, a)) (Finset.mem_univ _))

end Cert.Mlp
-- ==== Proof.Steps.lean ====
/-
One rule for each kind of step that `kernel` takes, stated once for every layer and distance: the local copies of the
weights and their waits, the signals to the peers and the wait for theirs, the sends, the waits for arrivals and for the
sends' completion, and the loads and stores of slots.
-/
module

public import proofs.«01_k».proof.Proof.Protocol

@[expose] public section

noncomputable section

namespace Cert.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × AC → ℕ)

abbrev 𝒱₀ : Variants := Variants.none

/-- Device `c` runs `p` to `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What every step may use: that every cell is known, and the levels. -/
def ctx : sProp 𝕄 := iprop(known m K ∗ levAts L lv)

instance ctx_persistent : BI.Persistent (ctx m K) := by unfold ctx; infer_instance

/-- Device `c` owes the payments `Ls`. -/
def ows (c : Dev nD) (Ls : List Pay) : sProp 𝕄 := iprop(∃ W : Waits sig Unit, owes (c : Thread nD τ) (owed c Ls) W)

variable {α : Type} {Q : α → sProp (MT nD τ sig Unit (Elt F) ℕ UU ℕ)}

/-- The token of the one duty of device `c`'s cell, -/
abbrev tok (c : Dev nD) (a : AC) (d : Fin 3) : sProp 𝕄 := dutyTok ER (kcell c a) 0 d
/-- its position before its wait, -/
abbrev pos₀ (c : Dev nD) (a : AC) : sProp 𝕄 := atPos ER (kcell c a) 0 ∅ 0
/-- after it, -/
abbrev pos₁ (c : Dev nD) (a : AC) : sProp 𝕄 := atPos ER (kcell c a) (0 + 1) ∅ 0
/-- and the credit for that wait. -/
abbrev crd (c : Dev nD) (a : AC) : sProp 𝕄 := cred (tallyAt (kcell c a) () (amt (some a)))

/-! ## The weights' copies -/

/-- Before layer `l`'s first-weight copy, -/
def inA (c : Dev nD) (l : Fin 3) : sProp 𝕄 := iprop(tok c (wiC l) 0 ∗ pos₀ c (wiC l) ∗ free (F := F) (winM l) c ∗ hbmI m c l)
/-- while it is under way, -/
def inB (c : Dev nD) (l : Fin 3) : sProp 𝕄 := iprop(pos₀ c (wiC l) ∗ crd c (wiC l))
/-- after it. -/
def inC (c : Dev nD) (l : Fin 3) : sProp 𝕄 := iprop(pos₁ c (wiC l) ∗ held (winM l) c fullShare (winV m c l) ∗ hbmI m c l)
/-- The same for its second weight. -/
def outA (c : Dev nD) (l : Fin 3) : sProp 𝕄 := iprop(tok c (woC l) 0 ∗ pos₀ c (woC l) ∗ free (F := F) (woutM l) c ∗ hbmO m c l)
def outB (c : Dev nD) (l : Fin 3) : sProp 𝕄 := iprop(pos₀ c (woC l) ∗ crd c (woC l))
def outC (c : Dev nD) (l : Fin 3) : sProp 𝕄 := iprop(pos₁ c (woC l) ∗ held (woutM l) c fullShare (woutV m c l) ∗ hbmO m c l)

/-- The copy of a first weight starts. -/
theorem step_copy_in (c : Dev nD) (l : Fin 3) {hsrc : (winH l).view.WordExact} {hdst : (winM l).view.WordExact}
    {hsem : DmaTarget.Typed (nD := nD) (τ := τ) (p := .tc) .hbm (.dma (wiS l)) (.here (winM l))}
    {k : PUnit → Prog (TpuEff nD τ sig (Elt F) Λ₀ .tc) α} :
    iprop(ctx m K ∗ inA m c l)
      ⊢ iprop((inB c l -∗ runs c (k ⟨⟩) Q) -∗ runs c (.op (.enqueueDma (winH l) (.here (winM l)) (.dma (wiS l)) hsrc hdst hsem) k) Q) := by
  unfold ctx inA inB free hbmI
  iintro ⟨⟨#Hk, #Hlev⟩, Ht, Hp, ⟨%f, Hf⟩, Hh⟩ Hgo
  iapply (Rounds.wp_copy_pointsTo 𝒱₀ ER (xRd m) (c : Thread nD τ) none (κ := K (c, wiC l)) (r := 0) (d := 0)
    (src := winH l) (dst := winM l) (sem := .dma (wiS l)) (q := fullShare) (fs := m ((winH l).view.loc (c : Thread nD τ))) (fd := f)
    (by show 0 ∈ (xRd m).duties (kcell c (wiC l)) 0; rw [duties_cell]; exact Finset.mem_singleton_self _) () (amt (some (wiC l))) rfl
    (amount_cell m c (wiC l) 0)
    (by
      show _ ⊢ (xRd m).payload (kcell c (wiC l)) 0 0
      rw [payload_cell]
      exact sep_mono_left (held_of (winM l) c fullShare _ (winV m c l) (View.read_write_univ _ _)))) $$ [Ht Hf Hh]
  · isplitr; · iapply (known_inv m K c (wiC l)); iexact Hk
    isplitl [Hh]; · iexact Hh
    isplitl [Hf]; · iexact Hf
    isplitl [Ht]; · iexact Ht
    iapply (known_reached m K c (wiC l)); iexact Hk
  iintro Hc
  iapply Hgo
  isplitl [Hp]; · iexact Hp
  iexact Hc

/-- The copy of a second weight starts. -/
theorem step_copy_out (c : Dev nD) (l : Fin 3) {hsrc : (woutH l).view.WordExact} {hdst : (woutM l).view.WordExact}
    {hsem : DmaTarget.Typed (nD := nD) (τ := τ) (p := .tc) .hbm (.dma (woS l)) (.here (woutM l))}
    {k : PUnit → Prog (TpuEff nD τ sig (Elt F) Λ₀ .tc) α} :
    iprop(ctx m K ∗ outA m c l)
      ⊢ iprop((outB c l -∗ runs c (k ⟨⟩) Q) -∗ runs c (.op (.enqueueDma (woutH l) (.here (woutM l)) (.dma (woS l)) hsrc hdst hsem) k) Q) := by
  unfold ctx outA outB free hbmO
  iintro ⟨⟨#Hk, #Hlev⟩, Ht, Hp, ⟨%f, Hf⟩, Hh⟩ Hgo
  iapply (Rounds.wp_copy_pointsTo 𝒱₀ ER (xRd m) (c : Thread nD τ) none (κ := K (c, woC l)) (r := 0) (d := 0)
    (src := woutH l) (dst := woutM l) (sem := .dma (woS l)) (q := fullShare) (fs := m ((woutH l).view.loc (c : Thread nD τ))) (fd := f)
    (by show 0 ∈ (xRd m).duties (kcell c (woC l)) 0; rw [duties_cell]; exact Finset.mem_singleton_self _) () (amt (some (woC l))) rfl
    (amount_cell m c (woC l) 0)
    (by
      show _ ⊢ (xRd m).payload (kcell c (woC l)) 0 0
      rw [payload_cell]
      exact sep_mono_left (held_of (woutM l) c fullShare _ (woutV m c l) (View.read_write_univ _ _)))) $$ [Ht Hf Hh]
  · isplitr; · iapply (known_inv m K c (woC l)); iexact Hk
    isplitl [Hh]; · iexact Hh
    isplitl [Hf]; · iexact Hf
    isplitl [Ht]; · iexact Ht
    iapply (known_reached m K c (woC l)); iexact Hk
  iintro Hc
  iapply Hgo
  isplitl [Hp]; · iexact Hp
  iexact Hc

/-- A wait for all the units of one of the kernel's own cells returns its payload; device `c` may make it while it owes
    payments to higher cells only. -/
theorem step_wait (c : Dev nD) (o : OC) (q : DmaSem sig) (hq : osem o = .dma q) (Ls : List Pay)
    (hL : ∀ p ∈ Ls, rank (some (.inr o)) < payRank p)
    {sp sp' : Space} {s s' : Shape} {e e' : EltTy} {src : Memref sig .tc sp s e} {dst : Memref sig .tc sp' s' e'}
    {hsrc : src.view.WordExact} {hdst : dst.view.WordExact} (hN : dst.view.dmaCredit = amt (some (.inr o)))
    {k : PUnit → Prog (TpuEff nD τ sig (Elt F) Λ₀ .tc) α} :
    iprop(ctx m K ∗ crd c (.inr o) ∗ ows c Ls ∗ pos₀ c (.inr o))
      ⊢ iprop(((ows c Ls ∗ pos₁ c (.inr o) ∗ pay m c 0 (some (.inr o))) -∗ runs c (k ⟨⟩) Q)
          -∗ runs c (.op (.waitDma2 q src dst hsrc hdst) k) Q) := by
  have hcell : kcell c (.inr o) = ((c : Thread nD τ), SemLoc.dma q) := congrArg (Prod.mk (c : Thread nD τ)) hq
  have hcs : csem (.inr o) = SemLoc.dma q := hq
  unfold ctx ows
  iintro ⟨⟨#Hk, #Hlev⟩, Hc, ⟨%W, HO⟩, Hp⟩ Hgo
  ihave #Hi := (known_inv m K c (.inr o)) $$ Hk
  ihave Hm := (mayWait_cell c (.inr o) Ls hL) $$ Hlev
  have hex := expect_own m c o
  have hrest := rest_own m c o
  have hK : K (c, .inr o) = K (c, .inr o) := rfl
  simp only [crd, pos₀, pos₁]
  rw [hcs]
  rw [hcell] at hex hrest ⊢
  iapply (Rounds.wp_wait_rest_token 𝒱₀ ER (xRd m) (c : Thread nD τ) none (κ := K (c, .inr o))
      (wpE_waitDma2_eq 𝒱₀ (c : Thread nD τ) none Set.univ) (Set.mem_univ _) () (O := owed c Ls) (W := W) (R := 0) (m := 0) (T := ∅)
      (by rw [Nat.zero_add, hN, hex])) $$ [Hc HO Hp Hm]
  · isplitr; · iexact Hi
    isplitl [Hc]; · rw [hN]; iexact Hc
    isplitl [HO]; · iexact HO
    isplitl [Hm]; · iexact Hm
    iexact Hp
  iintro ⟨HO, Hp, -, Hpay⟩
  iapply Hgo
  isplitl [HO]; · iexists _; iexact HO
  isplitl [Hp]; · iexact Hp
  iapply (Entails.of_eq hrest); iexact Hpay

/-- The wait for a first weight, -/
theorem step_wait_in (c : Dev nD) (l : Fin 3) (Ls : List Pay) (hL : ∀ p ∈ Ls, 0 < payRank p)
    {sp : Space} {s : Shape} {e : EltTy} {src : Memref sig .tc sp s e}
    {hsrc : src.view.WordExact} {hdst : (winM l).view.WordExact} {k : PUnit → Prog (TpuEff nD τ sig (Elt F) Λ₀ .tc) α} :
    iprop(ctx m K ∗ ows c Ls ∗ inB c l)
      ⊢ iprop(((ows c Ls ∗ inC m c l) -∗ runs c (k ⟨⟩) Q)
          -∗ runs c (.op (.waitDma2 (wiS l) src (winM l) hsrc hdst) k) Q) := by
  unfold inB inC
  iintro ⟨#Hk, HO, Hp, Hc⟩ Hgo
  iapply (step_wait m K c (.inl (.inl l)) (wiS l) rfl Ls hL rfl) $$ [HO Hp Hc]
  · isplitr; · iexact Hk
    isplitl [Hc]; · iexact Hc
    isplitl [HO]; · iexact HO
    iexact Hp
  iexact Hgo

/-- and for a second. -/
theorem step_wait_out (c : Dev nD) (l : Fin 3) (Ls : List Pay) (hL : ∀ p ∈ Ls, 0 < payRank p)
    {sp : Space} {s : Shape} {e : EltTy} {src : Memref sig .tc sp s e}
    {hsrc : src.view.WordExact} {hdst : (woutM l).view.WordExact} {k : PUnit → Prog (TpuEff nD τ sig (Elt F) Λ₀ .tc) α} :
    iprop(ctx m K ∗ ows c Ls ∗ outB c l)
      ⊢ iprop(((ows c Ls ∗ outC m c l) -∗ runs c (k ⟨⟩) Q)
          -∗ runs c (.op (.waitDma2 (woS l) src (woutM l) hsrc hdst) k) Q) := by
  unfold outB outC
  iintro ⟨#Hk, HO, Hp, Hc⟩ Hgo
  iapply (step_wait m K c (.inl (.inr l)) (woS l) rfl Ls hL rfl) $$ [HO Hp Hc]
  · isplitr; · iexact Hk
    isplitl [Hc]; · iexact Hc
    isplitl [HO]; · iexact HO
    iexact Hp
  iexact Hgo

/-! ## The handshake -/

/-- What device `c` gives with its signal at distance `k`: that peer's barrier duty, and its landing slots for that peer's sends. -/
def sgA (c : Dev nD) (k : Fin 3) : sProp 𝕄 := iprop(tok (F := F) (pe c k) brC k.rev ∗ slots c k.rev)

/-- A signal to a peer. -/
theorem step_signal (c : Dev nD) (k : Fin 3) (Ls : List Pay) (n : Dev nD) (hn : n = pe c k)
    {kk : PUnit → Prog (TpuEff nD τ sig (Elt F) Λ₀ .tc) α} :
    iprop(ctx m K ∗ ows c (.inl k :: Ls) ∗ sgA (F := F) c k)
      ⊢ iprop((ows c Ls -∗ runs c (kk ⟨⟩) Q)
          -∗ runs c (.op (.semSignal (n : Thread nD τ) barS 1) kk) Q) := by
  subst hn
  unfold ctx ows sgA
  iintro ⟨⟨#Hk, #Hlev⟩, ⟨%W, HO⟩, Ht, Hs⟩ Hgo
  iapply (Rounds.wp_signal 𝒱₀ ER (xRd m) (c : Thread nD τ) none (dst := (pe c k : Thread nD τ)) (κ := K (pe c k, brC)) (r := 0) (d := k.rev)
      (by show k.rev ∈ (xRd m).duties (kcell (pe c k) brC) 0; rw [duties_cell]; exact Finset.mem_univ _)
      (amount_cell m (pe c k) brC k.rev) () (owed c Ls) rfl) $$ [HO Ht Hs]
  · isplitr; · iapply (known_inv m K (pe c k) brC); iexact Hk
    isplitl [HO]; · iexact HO
    isplitl [Ht]; · iexact Ht
    isplitl [Hs]
    · have hp : (xRd m).payload ((pe c k : Thread nD τ), SemLoc.reg barS) 0 k.rev = slots (F := F) c k.rev := by
        show (xRd m).payload (kcell (pe c k) brC) 0 k.rev = _
        rw [payload_cell]; unfold pay; dsimp only; rw [pe_rev]
      iapply (Entails.of_eq hp.symm); iexact Hs
    · iapply (known_reached m K (pe c k) brC); iexact Hk
  iintro HO
  iapply Hgo
  iexists W
  iexact HO

/-- The wait for the three peers' signals. -/
theorem step_barrier (c : Dev nD) (Ls : List Pay) (hL : ∀ p ∈ Ls, 1 < payRank p)
    {kk : PUnit → Prog (TpuEff nD τ sig (Elt F) Λ₀ .tc) α} :
    iprop(ctx m K ∗ ows c Ls ∗ pos₀ (F := F) c brC ∗ cred (tallyAt (kcell c brC) () 3))
      ⊢ iprop(((ows c Ls ∗ pos₁ c brC
            ∗ slots (pe c 0) 0 ∗ slots (pe c 1) 1 ∗ slots (pe c 2) 2) -∗ runs c (kk ⟨⟩) Q)
          -∗ runs c (.op (.semWait barS 3) kk) Q) := by
  unfold ctx ows
  iintro ⟨⟨#Hk, #Hlev⟩, ⟨%W, HO⟩, Hp, Hc⟩ Hgo
  ihave #Hi := (known_inv m K c brC) $$ Hk
  ihave Hm := (mayWait_cell c brC Ls hL) $$ Hlev
  iapply (Rounds.wp_wait_rest_token 𝒱₀ ER (xRd m) (c : Thread nD τ) none (κ := K (c, brC))
      (wpE_semWait_eq 𝒱₀ (c : Thread nD τ) none Set.univ) (Set.mem_univ _) () (O := owed c Ls) (W := W) (R := 0) (m := 0) (T := ∅)
      (expect_bar m c).symm) $$ [Hc HO Hp Hm]
  · isplitr; · iexact Hi
    isplitl [Hc]; · iexact Hc
    isplitl [HO]; · iexact HO
    isplitl [Hm]; · iexact Hm
    iexact Hp
  iintro ⟨HO, Hp, -, Hpay⟩
  iapply Hgo
  isplitl [HO]; · iexists _; iexact HO
  isplitl [Hp]; · iexact Hp
  iapply (Entails.of_eq (rest_bar m c)); iexact Hpay

/-! ## The exchange of one layer at one distance -/

/-- Device `c`'s part in layer `l`'s exchange at `k` before it sends: the duties of its send cell and of the peer's arrival
    cell, its own two cells' positions and the credit for what will arrive. -/
def xA (c : Dev nD) (l k : Fin 3) : sProp 𝕄 :=
  iprop(tok (F := F) c (sdC l k) 0 ∗ tok (F := F) (pe c k) (rvC l k) 0 ∗ pos₀ c (sdC l k) ∗ pos₀ c (rvC l k) ∗ crd c (rvC l k))
/-- Once it has sent, -/
def xB (c : Dev nD) (l k : Fin 3) : sProp 𝕄 := iprop(crd (F := F) c (sdC l k) ∗ pos₀ c (sdC l k) ∗ pos₀ c (rvC l k) ∗ crd c (rvC l k))
/-- once the peer's partial product has arrived, -/
def xC (c : Dev nD) (l k : Fin 3) : sProp 𝕄 :=
  iprop(crd (F := F) c (sdC l k) ∗ pos₀ c (sdC l k) ∗ pos₁ c (rvC l k) ∗ held (commM l k) c fullShare (sent m (pe c k.rev) l))
/-- once its own send is complete. -/
def xD (c : Dev nD) (l k : Fin 3) : sProp 𝕄 :=
  iprop(held (sendM l) c (third k) (sent m c l) ∗ pos₁ c (sdC l k) ∗ pos₁ c (rvC l k) ∗ held (commM l k) c fullShare (sent m (pe c k.rev) l))

/-- A send. -/
theorem step_send (c : Dev nD) (l k : Fin 3) (Ls : List Pay) (n : Dev nD) (hn : n = pe c k)
    {hsc : (commM l k : Memref sig (Dev.tc n : Thread nD τ).2.kind .vmem S128x128 .bf16).view.ref.isScScratch = false}
    {hsrc : (sendM l).view.WordExact} {hdst : (commM l k).view.WordExact}
    {hsem : DmaTarget.Typed (nD := nD) (τ := τ) (p := .tc) .vmem (.dma (rvS l k)) (.remote (Dev.tc n : Thread nD τ) (commM l k : Memref sig .tc .vmem S128x128 .bf16) (.dma (sdS l k)) hsc)}
    {kk : PUnit → Prog (TpuEff nD τ sig (Elt F) Λ₀ .tc) α} :
    iprop(ctx m K ∗ ows c (.inr (l, k) :: Ls) ∗ xA (F := F) c l k
        ∗ held (sendM l) c (third k) (sent m c l) ∗ free (F := F) (commM l k) (pe c k))
      ⊢ iprop(((ows c Ls ∗ xB (F := F) c l k) -∗ runs c (kk ⟨⟩) Q)
          -∗ runs c (.op (.enqueueDma (sendM l) (.remote (Dev.tc n : Thread nD τ) (commM l k : Memref sig .tc .vmem S128x128 .bf16) (.dma (sdS l k)) hsc) (.dma (rvS l k)) hsrc hdst hsem) kk) Q) := by
  subst hn
  unfold ctx ows xA xB free
  iintro ⟨⟨#Hk, #Hlev⟩, ⟨%W, HO⟩, ⟨Hts, Htv, Hps, Hpv, Hcv⟩, Hs, ⟨%f, Hf⟩⟩ Hgo
  iapply (Rounds.wp_send_pointsTo 𝒱₀ ER (xRd m) (c : Thread nD τ) none (κ₁ := K (c, sdC l k)) (κ₂ := K (pe c k, rvC l k))
    (src := sendM l) (dst := commM l k) (c' := (pe c k : Thread nD τ)) (sS := .dma (sdS l k)) (sem := .dma (rvS l k))
    (q := third k) (fs := (sendM l).view.rep (sent m c l))
    (r₁ := 0) (r₂ := 0) (d₁ := 0) (d₂ := 0) (fd := f)
    (by show 0 ∈ (xRd m).duties (kcell c (sdC l k)) 0; rw [duties_cell]; exact Finset.mem_singleton_self _)
    (by show 0 ∈ (xRd m).duties (kcell (pe c k) (rvC l k)) 0; rw [duties_cell]; exact Finset.mem_singleton_self _)
    () () (amt (some (rvC l k))) rfl (amount_cell m c (sdC l k) 0) (amount_cell m (pe c k) (rvC l k) 0) (owed c Ls) rfl (W := W)
    (by show _ ⊢ (xRd m).payload (kcell c (sdC l k)) 0 0; rw [payload_cell]; exact BI.Entails.refl _)
    (by
      show _ ⊢ (xRd m).payload (kcell (pe c k) (rvC l k)) 0 0
      rw [payload_cell]
      unfold pay; dsimp only; rw [pe_rev]
      refine held_of (commM l k) (pe c k) fullShare _ _ ?_
      rw [View.read_write_univ, View.read_rep])) $$ [HO Hts Htv Hs Hf]
  · isplitr; · iapply (known_inv m K c (sdC l k)); iexact Hk
    isplitr; · iapply (known_inv m K (pe c k) (rvC l k)); iexact Hk
    isplitl [Hs]; · unfold held; iexact Hs
    isplitl [Hf]; · iexact Hf
    isplitl [HO]; · iexact HO
    isplitl [Hts]; · iexact Hts
    isplitr; · iapply (known_reached m K c (sdC l k)); iexact Hk
    isplitl [Htv]; · iexact Htv
    iapply (known_reached m K (pe c k) (rvC l k)); iexact Hk
  iintro ⟨Hcs, HO⟩
  iapply Hgo
  isplitl [HO]; · iexists _; iexact HO
  isplitl [Hcs]; · iexact Hcs
  isplitl [Hps]; · iexact Hps
  isplitl [Hpv]; · iexact Hpv
  iexact Hcv

/-- The wait for an arrival. -/
theorem step_arrive (c : Dev nD) (l k : Fin 3) (Ls : List Pay) (hL : ∀ p ∈ Ls, 2 + l.val < payRank p)
    {sp : Space} {s : Shape} {e : EltTy} {src : Memref sig .tc sp s e}
    {hsrc : src.view.WordExact} {hdst : (commM l k).view.WordExact} {kk : PUnit → Prog (TpuEff nD τ sig (Elt F) Λ₀ .tc) α} :
    iprop(ctx m K ∗ ows c Ls ∗ xB (F := F) c l k)
      ⊢ iprop(((ows c Ls ∗ xC m c l k) -∗ runs c (kk ⟨⟩) Q)
          -∗ runs c (.op (.waitDma2 (rvS l k) src (commM l k) hsrc hdst) kk) Q) := by
  unfold xB xC
  iintro ⟨#Hk, HO, Hcs, Hps, Hpv, Hcv⟩ Hgo
  iapply (step_wait m K c (.inr (.inr (l, k))) (rvS l k) rfl Ls hL rfl) $$ [HO Hpv Hcv]
  · isplitr; · iexact Hk
    isplitl [Hcv]; · iexact Hcv
    isplitl [HO]; · iexact HO
    iexact Hpv
  iintro ⟨HO, Hpv, Hpay⟩
  iapply Hgo
  isplitl [HO]; · iexact HO
  isplitl [Hcs]; · iexact Hcs
  isplitl [Hps]; · iexact Hps
  isplitl [Hpv]; · iexact Hpv
  have hp : pay m c 0 (some (.inr (.inr (.inr (l, k))))) = held (commM l k) c fullShare (sent m (pe c k.rev) l) := rfl
  iapply (Entails.of_eq hp); iexact Hpay

/-- The wait for a send's completion, when everything is paid. -/
theorem step_drain (c : Dev nD) (l k : Fin 3)
    {sp : Space} {s : Shape} {e : EltTy} {src : Memref sig .tc sp s e}
    {hsrc : src.view.WordExact} {hdst : (sendM l).view.WordExact} {kk : PUnit → Prog (TpuEff nD τ sig (Elt F) Λ₀ .tc) α} :
    iprop(ctx m K ∗ ows c [] ∗ xC m c l k)
      ⊢ iprop(((ows c [] ∗ xD m c l k) -∗ runs c (kk ⟨⟩) Q)
          -∗ runs c (.op (.waitDma2 (sdS l k) src (sendM l) hsrc hdst) kk) Q) := by
  unfold xC xD
  iintro ⟨#Hk, HO, Hcs, Hps, Hpv, Hh⟩ Hgo
  iapply (step_wait m K c (.inr (.inl (l, k))) (sdS l k) rfl [] (fun p hp => absurd hp List.not_mem_nil) (credit_send l k)) $$ [HO Hps Hcs]
  · isplitr; · iexact Hk
    isplitl [Hcs]; · iexact Hcs
    isplitl [HO]; · iexact HO
    iexact Hps
  iintro ⟨HO, Hps, Hpay⟩
  iapply Hgo
  isplitl [HO]; · iexact HO
  isplitl [Hpay]
  · have hp : pay m c 0 (some (.inr (.inr (.inl (l, k))))) = held (sendM l) c (third k) (sent m c l) := rfl
    iapply (Entails.of_eq hp); iexact Hpay
  isplitl [Hps]; · iexact Hps
  isplitl [Hpv]; · iexact Hpv
  iexact Hh

/-! ## Loads and stores of slots -/

section Slot

variable {sp : CoreSpace} {s s' : Shape} {e : EltTy}

/-- A load of a held slot's box reads the slot's array with its unit axes. -/
theorem step_load (c : Dev nD) (M : Memref sig .tc sp s e) (r : Rect s) (hr : ∀ a, r.stride a = 1) (h : r.shape.Squeezes s')
    (q : PosShare TreeShare) (X : s'.Idx → Elt F e) {hl : M.view.LoadsAt r.toLoadRect} {kk : (r.shape.Idx → Elt F e) → Prog (TpuEff nD τ sig (Elt F) Λ₀ .tc) α} :
    (held ((M.slice r hr).squeeze s' h) c q X)
      ⊢ iprop(((held ((M.slice r hr).squeeze s' h) c q X) -∗ runs c (kk (widen h.numel_eq X)) Q)
          -∗ runs c (.op (.load M r.toLoadRect hl) kk) Q) := by
  have h₁ : widen h.numel_eq X = M.view.readAt (Elt F) r.toLoadRect (((M.slice r hr).squeeze s' h).view.rep X) := by
    rw [readAt_slot M r hr h, View.read_rep]
  rw [h₁]
  unfold held
  exact wp_load 𝒱₀ (c : Thread nD τ) none Set.univ (m := M) (r := r.toLoadRect)
    (by rw [set_slot M r hr h, View.set_slice]; exact Finset.Subset.refl _)

/-- A load of a free slot's box reads something. -/
theorem step_load_free (c : Dev nD) (M : Memref sig .tc sp s e) (r : Rect s) (hr : ∀ a, r.stride a = 1) (h : r.shape.Squeezes s')
    {hl : M.view.LoadsAt r.toLoadRect} {kk : (r.shape.Idx → Elt F e) → Prog (TpuEff nD τ sig (Elt F) Λ₀ .tc) α} :
    (free (F := F) ((M.slice r hr).squeeze s' h) c)
      ⊢ iprop((∀ v, (free (F := F) ((M.slice r hr).squeeze s' h) c) -∗ runs c (kk v) Q)
          -∗ runs c (.op (.load M r.toLoadRect hl) kk) Q) := by
  unfold free
  iintro ⟨%f, Hf⟩ Hgo
  iapply (wp_load 𝒱₀ (c : Thread nD τ) none Set.univ (m := M) (r := r.toLoadRect) (S := ((M.slice r hr).squeeze s' h).view.set)
    (q := fullShare) (f := f) (by rw [set_slot M r hr h, View.set_slice]; exact Finset.Subset.refl _)) $$ [Hf]
  · iexact Hf
  iintro Hf
  iapply Hgo
  iexists f
  iexact Hf

/-- A store to a free slot's box fills the slot. -/
theorem step_store (c : Dev nD) (M : Memref sig .tc sp s e) (r : Rect s) (hr : ∀ a, r.stride a = 1) (h : r.shape.Squeezes s')
    (w : r.shape.Idx → Elt F e) {hx : (M.access r).Stores Finset.univ} {hm : Finset.univ = Finset.univ ∨ ∀ a, r.stride a = 1}
    {kk : PUnit → Prog (TpuEff nD τ sig (Elt F) Λ₀ .tc) α} :
    (free (F := F) ((M.slice r hr).squeeze s' h) c)
      ⊢ iprop(((held ((M.slice r hr).squeeze s' h) c fullShare (narrow h.numel_eq w)) -∗ runs c (kk ⟨⟩) Q)
          -∗ runs c (.op (.store M r w Finset.univ hx hm) kk) Q) := by
  unfold free
  iintro ⟨%f, Hf⟩ Hgo
  iapply (wp_store 𝒱₀ (c : Thread nD τ) none Set.univ (m := M) (r := r) (w := w) (Mk := Finset.univ)
    (S := ((M.slice r hr).squeeze s' h).view.set) (f := f) (by rw [set_slot M r hr h]; exact Finset.Subset.refl _)) $$ [Hf]
  · iexact Hf
  iintro Hf
  iapply Hgo
  iapply (held_of ((M.slice r hr).squeeze s' h) c fullShare _ _ (read_store_slot M r hr h f w))
  iexact Hf

end Slot

/-- A load of a copied first weight, -/
theorem step_load_in (c : Dev nD) (l : Fin 3) {hl : winB.view.LoadsAt (winR l).toLoadRect}
    {kk : ((winR l).shape.Idx → Elt F .f32) → Prog (TpuEff nD τ sig (Elt F) Λ₀ .tc) α} :
    (inC m c l) ⊢ iprop((inC m c l -∗ runs c (kk (winW m c l)) Q) -∗ runs c (.op (.load winB (winR l).toLoadRect hl) kk) Q) := by
  unfold inC
  iintro ⟨Hp, Hh, Hb⟩ Hgo
  iapply (step_load c winB (winR l) (fun _ => rfl) squeezes_S1x128x256_S128x256 fullShare (winV m c l)) $$ [Hh]
  · iexact Hh
  iintro Hh
  iapply Hgo
  isplitl [Hp]; · iexact Hp
  isplitl [Hh]; · iexact Hh
  iexact Hb

/-- of a copied second weight, -/
theorem step_load_out (c : Dev nD) (l : Fin 3) {hl : woutB.view.LoadsAt (woutR l).toLoadRect}
    {kk : ((woutR l).shape.Idx → Elt F .f32) → Prog (TpuEff nD τ sig (Elt F) Λ₀ .tc) α} :
    (outC m c l) ⊢ iprop((outC m c l -∗ runs c (kk (woutW m c l)) Q) -∗ runs c (.op (.load woutB (woutR l).toLoadRect hl) kk) Q) := by
  unfold outC
  iintro ⟨Hp, Hh, Hb⟩ Hgo
  iapply (step_load c woutB (woutR l) (fun _ => rfl) squeezes_S1x256x128_S256x128 fullShare (woutV m c l)) $$ [Hh]
  · iexact Hh
  iintro Hh
  iapply Hgo
  isplitl [Hp]; · iexact Hp
  isplitl [Hh]; · iexact Hh
  iexact Hb

/-- and of an arrived partial product. -/
theorem step_load_comm (c : Dev nD) (l k : Fin 3) {hl : commB.view.LoadsAt (commR l k).toLoadRect}
    {kk : ((commR l k).shape.Idx → Elt F .bf16) → Prog (TpuEff nD τ sig (Elt F) Λ₀ .tc) α} :
    (xC m c l k) ⊢ iprop((xC m c l k -∗ runs c (kk (land (sent m (pe c k.rev) l))) Q) -∗ runs c (.op (.load commB (commR l k).toLoadRect hl) kk) Q) := by
  unfold xC
  iintro ⟨Hc, Hs, Hv, Hh⟩ Hgo
  iapply (step_load c commB (commR l k) (fun _ => rfl) squeezes_S1x1x128x128_S128x128 fullShare (sent m (pe c k.rev) l)) $$ [Hh]
  · iexact Hh
  iintro Hh
  iapply Hgo
  isplitl [Hc]; · iexact Hc
  isplitl [Hs]; · iexact Hs
  isplitl [Hv]; · iexact Hv
  iexact Hh

/-- The send slot `l` held in thirds. -/
def thirds (c : Dev nD) (l : Fin 3) (X : Part F) : sProp 𝕄 :=
  iprop(held (sendM l) c (third 0) X ∗ held (sendM l) c (third 1) X ∗ held (sendM l) c (third 2) X)

/-- A dead load of a send slot, -/
theorem step_load_send (c : Dev nD) (l : Fin 3) {hl : sendB.view.LoadsAt (sendR l).toLoadRect}
    {kk : ((sendR l).shape.Idx → Elt F .bf16) → Prog (TpuEff nD τ sig (Elt F) Λ₀ .tc) α} :
    (free (F := F) (sendM l) c) ⊢ iprop((∀ v, (free (F := F) (sendM l) c) -∗ runs c (kk v) Q) -∗ runs c (.op (.load sendB (sendR l).toLoadRect hl) kk) Q) :=
  step_load_free c sendB (sendR l) (fun _ => rfl) squeezes_S1x128x128_S128x128

/-- and a store to it, the slot then in thirds for the three sends. -/
theorem step_store_send (c : Dev nD) (l : Fin 3) (w : (sendR l).shape.Idx → Elt F .bf16)
    {hx : (sendB.access (sendR l)).Stores Finset.univ} {hm : Finset.univ = Finset.univ ∨ ∀ a, (sendR l).stride a = 1}
    {kk : PUnit → Prog (TpuEff nD τ sig (Elt F) Λ₀ .tc) α} :
    (free (F := F) (sendM l) c)
      ⊢ iprop((thirds c l (unsend w) -∗ runs c (kk ⟨⟩) Q) -∗ runs c (.op (.store sendB (sendR l) w Finset.univ hx hm) kk) Q) := by
  unfold thirds unsend
  iintro Hf Hgo
  iapply (step_store c sendB (sendR l) (fun _ => rfl) squeezes_S1x128x128_S128x128 w) $$ [Hf]
  · iexact Hf
  iintro Hh
  iapply Hgo
  iapply (held_thirds (sendM l) c (narrow squeezes_S1x128x128_S128x128.numel_eq w)).1
  iexact Hh

/-- The end of a program. -/
theorem step_ret (c : Dev nD) (a : α) : Q a ⊢ runs c (.ret a) Q := by
  unfold runs
  rw [wp_ret]
  exact BI.fupd_intro

end Cert.Mlp
-- ==== Proof.Body.lean ====
/-
`kernel`'s body, part by part: each lemma takes what its part needs, leaves what it makes, and names the values it computes.
-/
module

public import proofs.«01_k».proof.Proof.Steps

@[expose] public section

set_option maxRecDepth 65536

noncomputable section

namespace Cert.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × AC → ℕ)

/-- A part of the body, at the launch's buffers and semaphores. -/
abbrev atBufs {β : Type 1} (f : (arg0 : Memref sig .tc .vmem S128x128 .f32) → arg0.IsWhole → (arg1 : Memref sig .tc .hbm S128x256 .f32) → arg1.IsWhole
      → (arg2 : Memref sig .tc .hbm S256x128 .f32) → arg2.IsWhole → (arg3 : Memref sig .tc .hbm S128x256 .f32) → arg3.IsWhole
      → (arg4 : Memref sig .tc .hbm S256x128 .f32) → arg4.IsWhole → (arg5 : Memref sig .tc .hbm S128x256 .f32) → arg5.IsWhole
      → (arg6 : Memref sig .tc .hbm S256x128 .f32) → arg6.IsWhole → (arg7 : Memref sig .tc .vmem S128x128 .f32) → arg7.IsWhole
      → (arg8 : Memref sig .tc .vmem S3x128x256 .f32) → arg8.IsWhole → (arg9 : Memref sig .tc .vmem S3x256x128 .f32) → arg9.IsWhole
      → DmaSems sig S2x3 → (arg11 : Memref sig .tc .vmem S3x128x128 .bf16) → arg11.IsWhole
      → (arg12 : Memref sig .tc .vmem S3x3x128x128 .bf16) → arg12.IsWhole → DmaSems sig S3x3 → DmaSems sig S3x3 → β) : β :=
  f (Memref.whole cc0_stg0_0) (Memref.isWhole_whole _) (Memref.whole main_arg1) (Memref.isWhole_whole _)
    (Memref.whole main_arg4) (Memref.isWhole_whole _) (Memref.whole main_arg2) (Memref.isWhole_whole _)
    (Memref.whole main_arg5) (Memref.isWhole_whole _) (Memref.whole main_arg3) (Memref.isWhole_whole _)
    (Memref.whole main_arg6) (Memref.isWhole_whole _) (Memref.whole cc0_stg1_0) (Memref.isWhole_whole _)
    winB (Memref.isWhole_whole _) woutB (Memref.isWhole_whole _) cc0_scratch2 sendB (Memref.isWhole_whole _)
    commB (Memref.isWhole_whole _) cc0_scratch5 cc0_scratch6

/-- What device `c` owes from layer 2's exchange on, -/
abbrev due2 : List Pay := [.inr (2, 0), .inr (2, 1), .inr (2, 2)]
/-- from layer 1's, -/
abbrev due1 : List Pay := .inr (1, 0) :: .inr (1, 1) :: .inr (1, 2) :: due2
/-- and from layer 0's. -/
abbrev due0 : List Pay := .inr (0, 0) :: .inr (0, 1) :: .inr (0, 2) :: due1

/-- Everything a send needs. -/
def rdy (c : Dev nD) (l k : Fin 3) : sProp 𝕄 :=
  iprop(xA (F := F) c l k ∗ held (sendM l) c (third k) (sent m c l) ∗ free (F := F) (commM l k) (pe c k))

variable {α : Type} {Q : α → sProp (MT nD τ sig Unit (Elt F) ℕ UU ℕ)}

theorem rdy_intro (c : Dev nD) (l k : Fin 3) :
    iprop(xA (F := F) c l k ∗ held (sendM l) c (third k) (sent m c l) ∗ free (F := F) (commM l k) (pe c k)) ⊢ (rdy m c l k : sProp 𝕄) := by
  unfold rdy; exact BI.Entails.refl _

/-- A send that is ready. -/
theorem step_go (c : Dev nD) (l k : Fin 3) (Ls : List Pay) (n : Dev nD) (hn : n = pe c k)
    {hsc : (commM l k : Memref sig (Dev.tc n : Thread nD τ).2.kind .vmem S128x128 .bf16).view.ref.isScScratch = false}
    {hsrc : (sendM l).view.WordExact} {hdst : (commM l k).view.WordExact}
    {hsem : DmaTarget.Typed (nD := nD) (τ := τ) (p := .tc) .vmem (.dma (rvS l k)) (.remote (Dev.tc n : Thread nD τ) (commM l k : Memref sig .tc .vmem S128x128 .bf16) (.dma (sdS l k)) hsc)}
    {kk : PUnit → Prog (TpuEff nD τ sig (Elt F) Λ₀ .tc) α} :
    iprop(ctx m K ∗ ows c (.inr (l, k) :: Ls) ∗ rdy m c l k)
      ⊢ iprop(((ows c Ls ∗ xB (F := F) c l k) -∗ runs c (kk ⟨⟩) Q)
          -∗ runs c (.op (.enqueueDma (sendM l) (.remote (Dev.tc n : Thread nD τ) (commM l k : Memref sig .tc .vmem S128x128 .bf16) (.dma (sdS l k)) hsc) (.dma (rvS l k)) hsrc hdst hsem) kk) Q) :=
  step_send m K c l k Ls n hn

theorem one_toInt : (1#32 : BitVec 32).toInt = 1 := rfl
theorem three_toInt : (3#32 : BitVec 32).toInt = 3 := rfl

/-- Device `c`'s staged `x`, -/
def xS (c : Dev nD) : sProp 𝕄 := iprop(((c : Thread nD τ).loc cc0_stg0_0) ↦{fullShare} (xin m c))
/-- and its staged result. -/
def oS (c : Dev nD) (f : Buf (Elt F) ((c : Thread nD τ).loc cc0_stg1_0)) : sProp 𝕄 := iprop(((c : Thread nD τ).loc cc0_stg1_0) ↦{fullShare} f)

theorem hz : (![0, 0] : Fin 2 → Nat) = fun _ => 0 := funext fun a => by fin_cases a <;> rfl

theorem write_out (f w : (cc0_stg1_0 : Ref sig .tc).ty.Contents (Elt F)) :
    ((Memref.whole cc0_stg1_0 : Memref sig .tc .vmem S128x128 .f32).access (Rect.unit (s := S128x128) ![0, 0] S128x128.size inb_S128x128_S128x128_0_0) : View sig .tc _ _ _).write (Elt F) f w Finset.univ = w :=
  Memref.write_access_unit_zero_univ (Elt F) cc0_stg1_0 hz _ f w

section Parts

/-- Part 1: the copies of the first two layers' weights and of the third's first start. -/
theorem part1_runs (c : Dev nD) (Q : (Σ' (_ : Dev nD), BitVec 32) → sProp 𝕄) :
    iprop(ctx m K ∗ (inA m c 0 ∗ outA m c 0 ∗ inA m c 1 ∗ outA m c 1 ∗ inA m c 2)
        ∗ (∀ v, (inB c 0 ∗ outB c 0 ∗ inB c 1 ∗ outB c 1 ∗ inB c 2) -∗ Q ⟨c, v⟩))
      ⊢ runs c (atBufs k0_part1) Q := by
  simp only [atBufs, k0_part1_eq_skeleton]; unfold k0_part1_skel
  simp only [Prog.lift, Prog.bind_op, Prog.bind_ret, Prog.pure_eq_ret, runs, wp_deviceId, semSignalWord, semWaitWord, one_toInt, three_toInt]
  iintro ⟨#Hk, ⟨H0, H1, H2, H3, H4⟩, Hgo⟩
  iapply (step_copy_in m K c 0) $$ [H0]
  · isplitr; · iexact Hk
    iexact H0
  iintro H0
  iapply (step_copy_out m K c 0) $$ [H1]
  · isplitr; · iexact Hk
    iexact H1
  iintro H1
  iapply (step_copy_in m K c 1) $$ [H2]
  · isplitr; · iexact Hk
    iexact H2
  iintro H2
  iapply (step_copy_out m K c 1) $$ [H3]
  · isplitr; · iexact Hk
    iexact H3
  iintro H3
  iapply (step_copy_in m K c 2) $$ [H4]
  · isplitr; · iexact Hk
    iexact H4
  iintro H4
  iapply step_ret
  iapply Hgo
  isplitl [H0]; · iexact H0
  isplitl [H1]; · iexact H1
  isplitl [H2]; · iexact H2
  isplitl [H3]; · iexact H3
  iexact H4

/-- Part 2: the last copy starts, and the first two peers are signalled. -/
theorem part2_runs (c : Dev nD) (Ls : List Pay) (v2 : BitVec 32) (Q : (Σ' (_ : Sems sig S_) (_ : BitVec 32) (_ : BitVec 32), BitVec 1) → sProp 𝕄) :
    iprop(ctx m K ∗ (ows c (.inl 0 :: .inl 1 :: Ls) ∗ outA m c 2 ∗ sgA (F := F) c 0 ∗ sgA (F := F) c 1)
        ∗ (∀ x y z, (ows c Ls ∗ outB c 2) -∗ Q ⟨SemArray.scalar (sig.barrier 0 rfl), x, y, z⟩))
      ⊢ runs c (atBufs k0_part2 c v2) Q := by
  simp only [atBufs, k0_part2_eq_skeleton]; unfold k0_part2_skel
  simp only [Prog.lift, Prog.bind_op, Prog.bind_ret, Prog.pure_eq_ret, runs, wp_deviceId, semSignalWord, semWaitWord, one_toInt, three_toInt]
  iintro ⟨#Hk, ⟨HO, H0, H1, H2⟩, Hgo⟩
  iapply (step_copy_out m K c 2) $$ [H0]
  · isplitr; · iexact Hk
    iexact H0
  iintro H0
  iapply (step_signal m K c 0 (.inl 1 :: Ls) _ (dev1_eq c)) $$ [HO H1]
  · isplitr; · iexact Hk
    isplitl [HO]; · iexact HO
    iexact H1
  iintro HO
  iapply (step_signal m K c 1 Ls _ (dev2_eq c)) $$ [HO H2]
  · isplitr; · iexact Hk
    isplitl [HO]; · iexact HO
    iexact H2
  iintro HO
  iapply step_ret
  iapply Hgo
  isplitl [HO]; · iexact HO
  iexact H0

/-- Part 3: the last peer is signalled, and `x` and the first layer's weights are loaded. -/
theorem part3_runs (c : Dev nD) (a b : BitVec 32) (d : BitVec 1) (Q : (Σ' (_ : FVec F S128x256 .bf16), Vec F S1x256x128 .f32) → sProp 𝕄) :
    iprop(ctx m K ∗ (ows c (.inl 2 :: due0) ∗ sgA (F := F) c 2 ∗ xS m c ∗ inB c 0 ∗ outB c 0)
        ∗ ((ows c due0 ∗ xS m c ∗ inC m c 0 ∗ outC m c 0) -∗ Q ⟨k0_pay1 (xin m c) (winW m c 0), woutW m c 0⟩))
      ⊢ runs c (atBufs k0_part3 c (SemArray.scalar (sig.barrier 0 rfl)) a b d) Q := by
  simp only [atBufs, k0_part3_eq_skeleton]; unfold k0_part3_skel
  simp only [Prog.lift, Prog.bind_op, Prog.bind_ret, Prog.pure_eq_ret, runs, wp_deviceId, semSignalWord, semWaitWord, one_toInt, three_toInt]
  iintro ⟨#Hk, ⟨HO, Hs, Hx, H0, H1⟩, Hgo⟩
  iapply (step_signal m K c 2 due0 _ (dev3_eq c)) $$ [HO Hs]
  · isplitr; · iexact Hk
    isplitl [HO]; · iexact HO
    iexact Hs
  iintro HO
  unfold xS
  iapply (wp_load 𝒱₀ (c : Thread nD τ) none Set.univ (m := Memref.whole cc0_stg0_0) (Finset.subset_univ _)) $$ Hx; iintro Hx
  rw [show (Memref.whole cc0_stg0_0 : Memref sig .tc .vmem S128x128 .f32).view.readAt (Elt F) (Rect.unit (s := S128x128) ![0, 0] S128x128.size inb_S128x128_S128x128_0_0).toLoadRect (xin m c) = xin m c
    from Memref.readAt_unit_zero (Elt F) cc0_stg0_0 hz _ _]
  iapply (step_wait_in m K c 0 due0 (by decide)) $$ [HO H0]
  · isplitr; · iexact Hk
    isplitl [HO]; · iexact HO
    iexact H0
  iintro ⟨HO, H0⟩
  iapply (step_wait_out m K c 0 due0 (by decide)) $$ [HO H1]
  · isplitr; · iexact Hk
    isplitl [HO]; · iexact HO
    iexact H1
  iintro ⟨HO, H1⟩
  iapply (step_load_in m c 0) $$ [H0]
  · iexact H0
  iintro H0
  iapply (step_load_out m c 0) $$ [H1]
  · iexact H1
  iintro H1
  iapply step_ret
  iapply Hgo
  isplitl [HO]; · iexact HO
  isplitl [Hx]; · iexact Hx
  isplitl [H0]; · iexact H0
  iexact H1

/-- Part 4: the partial product is stored, the peers' signals are awaited, and the first send starts. -/
theorem part4_runs (c : Dev nD) (v2 : BitVec 32) (Q : (Σ' (_ : FVec F S128x128 .f32) (_ : BitVec 32) (_ : BitVec 32), BitVec 32) → sProp 𝕄) :
    iprop(ctx m K ∗ (ows c due0 ∗ free (F := F) (sendM 0) c ∗ pos₀ (F := F) c brC ∗ cred (tallyAt (kcell c brC) () 3) ∗ xA (F := F) c 0 0 ∗ xA (F := F) c 0 1 ∗ xA (F := F) c 0 2)
        ∗ (∀ x y z, (ows c (.inr (0, 1) :: .inr (0, 2) :: due1) ∗ pos₁ (F := F) c brC ∗ xB c 0 0 ∗ rdy m c 0 1 ∗ rdy m c 0 2 ∗ free (F := F) (commM 1 0) (pe c 0) ∗ free (F := F) (commM 1 1) (pe c 1) ∗ free (F := F) (commM 1 2) (pe c 2) ∗ free (F := F) (commM 2 0) (pe c 0) ∗ free (F := F) (commM 2 1) (pe c 1) ∗ free (F := F) (commM 2 2) (pe c 2)) -∗ Q ⟨part0 m c, x, y, z⟩))
      ⊢ runs c (atBufs k0_part4 c v2 (SemArray.scalar (sig.barrier 0 rfl)) (k0_pay1 (xin m c) (winW m c 0)) (woutW m c 0)) Q := by
  simp only [atBufs, k0_part4_eq_skeleton]; unfold k0_part4_skel
  simp only [Prog.lift, Prog.bind_op, Prog.bind_ret, Prog.pure_eq_ret, runs, wp_deviceId, semSignalWord, semWaitWord, one_toInt, three_toInt]
  rw [show part0 m c = k0_pay2 (k0_pay1 (xin m c) (winW m c 0)) (woutW m c 0) from rfl]
  iintro ⟨#Hk, ⟨HO, Hf, Hp, Hc, A0, A1, A2⟩, Hgo⟩
  iapply (step_load_send c 0) $$ [Hf]
  · iexact Hf
  iintro %v Hf
  iapply (step_store_send c 0 (k0_pay3 (k0_pay1 (xin m c) (winW m c 0)) (woutW m c 0))) $$ [Hf]
  · iexact Hf
  iintro HT
  ihave HT' := (Entails.of_eq (show thirds c 0 (unsend (k0_pay3 (k0_pay1 (xin m c) (winW m c 0)) (woutW m c 0))) = iprop(held (sendM 0) c (third 0) (sent m c 0) ∗ held (sendM 0) c (third 1) (sent m c 0) ∗ held (sendM 0) c (third 2) (sent m c 0)) from rfl)) $$ HT
  icases HT' with ⟨T0, T1, T2⟩
  iapply (step_barrier m K c due0 (by decide)) $$ [HO Hp Hc]
  · isplitr; · iexact Hk
    isplitl [HO]; · iexact HO
    isplitl [Hp]; · iexact Hp
    iexact Hc
  iintro ⟨HO, Hp, S0, S1, S2⟩
  unfold slots
  icases S0 with ⟨F00, F10, F20⟩
  icases S1 with ⟨F01, F11, F21⟩
  icases S2 with ⟨F02, F12, F22⟩
  ihave R0 := (rdy_intro m c 0 0) $$ [A0 T0 F00]
  · isplitl [A0]; · iexact A0
    isplitl [T0]; · iexact T0
    iexact F00
  ihave R1 := (rdy_intro m c 0 1) $$ [A1 T1 F01]
  · isplitl [A1]; · iexact A1
    isplitl [T1]; · iexact T1
    iexact F01
  ihave R2 := (rdy_intro m c 0 2) $$ [A2 T2 F02]
  · isplitl [A2]; · iexact A2
    isplitl [T2]; · iexact T2
    iexact F02
  iapply (step_go m K c 0 0 (.inr (0, 1) :: .inr (0, 2) :: due1) _ (dev4_eq c)) $$ [HO R0]
  · isplitr; · iexact Hk
    isplitl [HO]; · iexact HO
    iexact R0
  iintro ⟨HO, X0⟩
  iapply step_ret
  iapply Hgo
  isplitl [HO]; · iexact HO
  isplitl [Hp]; · iexact Hp
  isplitl [X0]; · iexact X0
  isplitl [R1]; · iexact R1
  isplitl [R2]; · iexact R2
  isplitl [F10]; · iexact F10
  isplitl [F11]; · iexact F11
  isplitl [F12]; · iexact F12
  isplitl [F20]; · iexact F20
  isplitl [F21]; · iexact F21
  iexact F22

/-- Part 5: layer 0's second send. -/
theorem part5_runs (c : Dev nD) (Ls : List Pay) (v2 a b : BitVec 32) (Q : (Σ' (_ : BitVec 32), BitVec 32) → sProp 𝕄) :
    iprop(ctx m K ∗ (ows c (.inr (0, 1) :: Ls) ∗ rdy m c 0 1)
        ∗ (∀ x y, (ows c Ls ∗ xB (F := F) c 0 1) -∗ Q ⟨x, y⟩))
      ⊢ runs c (atBufs k0_part5 c v2 a b) Q := by
  simp only [atBufs, k0_part5_eq_skeleton]; unfold k0_part5_skel
  simp only [Prog.lift, Prog.bind_op, Prog.bind_ret, Prog.pure_eq_ret, runs, wp_deviceId, semSignalWord, semWaitWord, one_toInt, three_toInt]
  iintro ⟨#Hk, ⟨HO, R1⟩, Hgo⟩
  iapply (step_go m K c 0 1 Ls _ (dev5_eq c)) $$ [HO R1]
  · isplitr; · iexact Hk
    isplitl [HO]; · iexact HO
    iexact R1
  iintro ⟨HO, X1⟩
  iapply step_ret
  iapply Hgo
  isplitl [HO]; · iexact HO
  iexact X1

/-- Part 6: its third, and its first arrival. -/
theorem part6_runs (c : Dev nD) (a b : BitVec 32) (Q : (PUnit) → sProp 𝕄) :
    iprop(ctx m K ∗ (ows c (.inr (0, 2) :: due1) ∗ rdy m c 0 2 ∗ xB (F := F) c 0 0)
        ∗ ((ows c due1 ∗ xB (F := F) c 0 2 ∗ xC m c 0 0) -∗ Q ⟨⟩))
      ⊢ runs c (atBufs k0_part6 c a b) Q := by
  simp only [atBufs, k0_part6_eq_skeleton]; unfold k0_part6_skel
  simp only [Prog.lift, Prog.bind_op, Prog.bind_ret, Prog.pure_eq_ret, runs, wp_deviceId, semSignalWord, semWaitWord, one_toInt, three_toInt]
  iintro ⟨#Hk, ⟨HO, R2, X0⟩, Hgo⟩
  iapply (step_go m K c 0 2 due1 _ (dev6_eq c)) $$ [HO R2]
  · isplitr; · iexact Hk
    isplitl [HO]; · iexact HO
    iexact R2
  iintro ⟨HO, X2⟩
  iapply (step_arrive m K c 0 0 due1 (by decide)) $$ [HO X0]
  · isplitr; · iexact Hk
    isplitl [HO]; · iexact HO
    iexact X0
  iintro ⟨HO, X0⟩
  iapply step_ret
  iapply Hgo
  isplitl [HO]; · iexact HO
  isplitl [X2]; · iexact X2
  iexact X0

/-- Part 7: the other two arrivals, and the loads of all three. -/
theorem part7_runs (c : Dev nD) (a : BitVec 32) (Q : (FVec F S128x128 .bf16) → sProp 𝕄) :
    iprop(ctx m K ∗ (ows c due1 ∗ xC m c 0 0 ∗ xB (F := F) c 0 1 ∗ xB (F := F) c 0 2)
        ∗ ((ows c due1 ∗ xC m c 0 0 ∗ xC m c 0 1 ∗ xC m c 0 2) -∗ Q (act1 m c)))
      ⊢ runs c (atBufs k0_part7 (part0 m c) a) Q := by
  simp only [atBufs, k0_part7_eq_skeleton]; unfold k0_part7_skel
  simp only [Prog.lift, Prog.bind_op, Prog.bind_ret, Prog.pure_eq_ret, runs, wp_deviceId, semSignalWord, semWaitWord, one_toInt, three_toInt]
  rw [show act1 m c = k0_pay4 (part0 m c) (land (sent m (pe c (Fin.rev 0)) 0)) (land (sent m (pe c (Fin.rev 1)) 0))
    (land (sent m (pe c (Fin.rev 2)) 0)) from rfl]
  iintro ⟨#Hk, ⟨HO, X0, X1, X2⟩, Hgo⟩
  iapply (step_arrive m K c 0 2 due1 (by decide)) $$ [HO X2]
  · isplitr; · iexact Hk
    isplitl [HO]; · iexact HO
    iexact X2
  iintro ⟨HO, X2⟩
  iapply (step_arrive m K c 0 1 due1 (by decide)) $$ [HO X1]
  · isplitr; · iexact Hk
    isplitl [HO]; · iexact HO
    iexact X1
  iintro ⟨HO, X1⟩
  iapply (step_load_comm m c 0 0) $$ [X0]
  · iexact X0
  iintro X0
  iapply (step_load_comm m c 0 1) $$ [X1]
  · iexact X1
  iintro X1
  iapply (step_load_comm m c 0 2) $$ [X2]
  · iexact X2
  iintro X2
  iapply step_ret
  iapply Hgo
  isplitl [HO]; · iexact HO
  isplitl [X0]; · iexact X0
  isplitl [X1]; · iexact X1
  iexact X2

/-- Part 8: layer 1's weights are loaded and its partial product is stored. -/
theorem part8_runs (c : Dev nD) (v2 : BitVec 32) (Q : (Σ' (_ : FVec F S128x128 .f32), BitVec 32) → sProp 𝕄) :
    iprop(ctx m K ∗ (ows c due1 ∗ inB c 1 ∗ outB c 1 ∗ free (F := F) (sendM 1) c)
        ∗ (∀ x, (ows c due1 ∗ inC m c 1 ∗ outC m c 1 ∗ held (sendM 1) c (third 0) (sent m c 1) ∗ held (sendM 1) c (third 1) (sent m c 1) ∗ held (sendM 1) c (third 2) (sent m c 1)) -∗ Q ⟨part1 m c, x⟩))
      ⊢ runs c (atBufs k0_part8 v2 (act1 m c)) Q := by
  simp only [atBufs, k0_part8_eq_skeleton]; unfold k0_part8_skel
  simp only [Prog.lift, Prog.bind_op, Prog.bind_ret, Prog.pure_eq_ret, runs, wp_deviceId, semSignalWord, semWaitWord, one_toInt, three_toInt]
  rw [show part1 m c = k0_pay5 (act1 m c) (winW m c 1) (woutW m c 1) from rfl]
  iintro ⟨#Hk, ⟨HO, H0, H1, Hf⟩, Hgo⟩
  iapply (step_wait_in m K c 1 due1 (by decide)) $$ [HO H0]
  · isplitr; · iexact Hk
    isplitl [HO]; · iexact HO
    iexact H0
  iintro ⟨HO, H0⟩
  iapply (step_wait_out m K c 1 due1 (by decide)) $$ [HO H1]
  · isplitr; · iexact Hk
    isplitl [HO]; · iexact HO
    iexact H1
  iintro ⟨HO, H1⟩
  iapply (step_load_in m c 1) $$ [H0]
  · iexact H0
  iintro H0
  iapply (step_load_out m c 1) $$ [H1]
  · iexact H1
  iintro H1
  iapply (step_load_send c 1) $$ [Hf]
  · iexact Hf
  iintro %v Hf
  iapply (step_store_send c 1 (k0_pay6 (act1 m c) (winW m c 1) (woutW m c 1))) $$ [Hf]
  · iexact Hf
  iintro HT
  ihave HT' := (Entails.of_eq (show thirds c 1 (unsend (k0_pay6 (act1 m c) (winW m c 1) (woutW m c 1))) = iprop(held (sendM 1) c (third 0) (sent m c 1) ∗ held (sendM 1) c (third 1) (sent m c 1) ∗ held (sendM 1) c (third 2) (sent m c 1)) from rfl)) $$ HT
  icases HT' with ⟨T0, T1, T2⟩
  iapply step_ret
  iapply Hgo
  isplitl [HO]; · iexact HO
  isplitl [H0]; · iexact H0
  isplitl [H1]; · iexact H1
  isplitl [T0]; · iexact T0
  isplitl [T1]; · iexact T1
  iexact T2

/-- Part 9: layer 1's first send. -/
theorem part9_runs (c : Dev nD) (Ls : List Pay) (a b : BitVec 32) (Q : (BitVec 32) → sProp 𝕄) :
    iprop(ctx m K ∗ (ows c (.inr (1, 0) :: Ls) ∗ rdy m c 1 0)
        ∗ (∀ x, (ows c Ls ∗ xB (F := F) c 1 0) -∗ Q x))
      ⊢ runs c (atBufs k0_part9 c a b) Q := by
  simp only [atBufs, k0_part9_eq_skeleton]; unfold k0_part9_skel
  simp only [Prog.lift, Prog.bind_op, Prog.bind_ret, Prog.pure_eq_ret, runs, wp_deviceId, semSignalWord, semWaitWord, one_toInt, three_toInt]
  iintro ⟨#Hk, ⟨HO, R0⟩, Hgo⟩
  iapply (step_go m K c 1 0 Ls _ (dev7_eq c)) $$ [HO R0]
  · isplitr; · iexact Hk
    isplitl [HO]; · iexact HO
    iexact R0
  iintro ⟨HO, X0⟩
  iapply step_ret
  iapply Hgo
  isplitl [HO]; · iexact HO
  iexact X0

/-- Part 10: its other two. -/
theorem part10_runs (c : Dev nD) (Ls : List Pay) (a b : BitVec 32) (Q : (BitVec 32) → sProp 𝕄) :
    iprop(ctx m K ∗ (ows c (.inr (1, 1) :: .inr (1, 2) :: Ls) ∗ rdy m c 1 1 ∗ rdy m c 1 2)
        ∗ (∀ x, (ows c Ls ∗ xB (F := F) c 1 1 ∗ xB (F := F) c 1 2) -∗ Q x))
      ⊢ runs c (atBufs k0_part10 c a b) Q := by
  simp only [atBufs, k0_part10_eq_skeleton]; unfold k0_part10_skel
  simp only [Prog.lift, Prog.bind_op, Prog.bind_ret, Prog.pure_eq_ret, runs, wp_deviceId, semSignalWord, semWaitWord, one_toInt, three_toInt]
  iintro ⟨#Hk, ⟨HO, R1, R2⟩, Hgo⟩
  iapply (step_go m K c 1 1 (.inr (1, 2) :: Ls) _ (dev8_eq c)) $$ [HO R1]
  · isplitr; · iexact Hk
    isplitl [HO]; · iexact HO
    iexact R1
  iintro ⟨HO, X1⟩
  iapply (step_go m K c 1 2 Ls _ (dev9_eq c)) $$ [HO R2]
  · isplitr; · iexact Hk
    isplitl [HO]; · iexact HO
    iexact R2
  iintro ⟨HO, X2⟩
  iapply step_ret
  iapply Hgo
  isplitl [HO]; · iexact HO
  isplitl [X1]; · iexact X1
  iexact X2

/-- Part 11: its arrivals, and the load of the first. -/
theorem part11_runs (c : Dev nD) (a b : BitVec 32) (Q : (FVec F S128x128 .f32) → sProp 𝕄) :
    iprop(ctx m K ∗ (ows c due2 ∗ xB (F := F) c 1 0 ∗ xB (F := F) c 1 1 ∗ xB (F := F) c 1 2)
        ∗ ((ows c due2 ∗ xC m c 1 0 ∗ xC m c 1 1 ∗ xC m c 1 2) -∗ Q (k0_pay7 (recv1 m c 0))))
      ⊢ runs c (atBufs k0_part11 a b) Q := by
  simp only [atBufs, k0_part11_eq_skeleton]; unfold k0_part11_skel
  simp only [Prog.lift, Prog.bind_op, Prog.bind_ret, Prog.pure_eq_ret, runs, wp_deviceId, semSignalWord, semWaitWord, one_toInt, three_toInt]
  rw [show recv1 m c 0 = land (sent m (pe c (Fin.rev 0)) 1) from rfl]
  iintro ⟨#Hk, ⟨HO, X0, X1, X2⟩, Hgo⟩
  iapply (step_arrive m K c 1 0 due2 (by decide)) $$ [HO X0]
  · isplitr; · iexact Hk
    isplitl [HO]; · iexact HO
    iexact X0
  iintro ⟨HO, X0⟩
  iapply (step_arrive m K c 1 2 due2 (by decide)) $$ [HO X2]
  · isplitr; · iexact Hk
    isplitl [HO]; · iexact HO
    iexact X2
  iintro ⟨HO, X2⟩
  iapply (step_arrive m K c 1 1 due2 (by decide)) $$ [HO X1]
  · isplitr; · iexact Hk
    isplitl [HO]; · iexact HO
    iexact X1
  iintro ⟨HO, X1⟩
  iapply (step_load_comm m c 1 0) $$ [X0]
  · iexact X0
  iintro X0
  iapply step_ret
  iapply Hgo
  isplitl [HO]; · iexact HO
  isplitl [X0]; · iexact X0
  isplitl [X1]; · iexact X1
  iexact X2

/-- Part 12: the loads of the other two and of layer 2's weights. -/
theorem part12_runs (c : Dev nD) (Q : (Σ' (_ : FVec F S128x128 .f32), FVec F S128x128 .bf16) → sProp 𝕄) :
    iprop(ctx m K ∗ (ows c due2 ∗ xC m c 1 1 ∗ xC m c 1 2 ∗ inB c 2 ∗ outB c 2)
        ∗ ((ows c due2 ∗ xC m c 1 1 ∗ xC m c 1 2 ∗ inC m c 2 ∗ outC m c 2) -∗ Q ⟨part2 m c, k0_pay9 (part1 m c) (k0_pay7 (recv1 m c 0)) (recv1 m c 1) (recv1 m c 2) (winW m c 2) (woutW m c 2)⟩))
      ⊢ runs c (atBufs k0_part12 (part1 m c) (k0_pay7 (recv1 m c 0))) Q := by
  simp only [atBufs, k0_part12_eq_skeleton]; unfold k0_part12_skel
  simp only [Prog.lift, Prog.bind_op, Prog.bind_ret, Prog.pure_eq_ret, runs, wp_deviceId, semSignalWord, semWaitWord, one_toInt, three_toInt]
  rw [show part2 m c = k0_pay8 (part1 m c) (k0_pay7 (recv1 m c 0)) (recv1 m c 1) (recv1 m c 2) (winW m c 2) (woutW m c 2) from rfl,
    show recv1 m c 1 = land (sent m (pe c (Fin.rev 1)) 1) from rfl, show recv1 m c 2 = land (sent m (pe c (Fin.rev 2)) 1) from rfl]
  iintro ⟨#Hk, ⟨HO, X1, X2, H0, H1⟩, Hgo⟩
  iapply (step_load_comm m c 1 1) $$ [X1]
  · iexact X1
  iintro X1
  iapply (step_load_comm m c 1 2) $$ [X2]
  · iexact X2
  iintro X2
  iapply (step_wait_in m K c 2 due2 (by decide)) $$ [HO H0]
  · isplitr; · iexact Hk
    isplitl [HO]; · iexact HO
    iexact H0
  iintro ⟨HO, H0⟩
  iapply (step_wait_out m K c 2 due2 (by decide)) $$ [HO H1]
  · isplitr; · iexact Hk
    isplitl [HO]; · iexact HO
    iexact H1
  iintro ⟨HO, H1⟩
  iapply (step_load_in m c 2) $$ [H0]
  · iexact H0
  iintro H0
  iapply (step_load_out m c 2) $$ [H1]
  · iexact H1
  iintro H1
  iapply step_ret
  iapply Hgo
  isplitl [HO]; · iexact HO
  isplitl [X1]; · iexact X1
  isplitl [X2]; · iexact X2
  isplitl [H0]; · iexact H0
  iexact H1

/-- Part 13: layer 2's partial product is stored, and its first send starts. -/
theorem part13_runs (c : Dev nD) (Ls : List Pay) (v2 : BitVec 32) (Q : (Σ' (_ : BitVec 32) (_ : BitVec 32) (_ : BitVec 32) (_ : BitVec 1) (_ : BitVec 1), BitVec 32) → sProp 𝕄) :
    iprop(ctx m K ∗ (ows c (.inr (2, 0) :: Ls) ∗ free (F := F) (sendM 2) c ∗ xA (F := F) c 2 0 ∗ free (F := F) (commM 2 0) (pe c 0))
        ∗ (∀ x y z u v w, (ows c Ls ∗ xB (F := F) c 2 0 ∗ held (sendM 2) c (third 1) (sent m c 2) ∗ held (sendM 2) c (third 2) (sent m c 2)) -∗ Q ⟨x, y, z, u, v, w⟩))
      ⊢ runs c (atBufs k0_part13 c v2 (k0_pay9 (part1 m c) (k0_pay7 (recv1 m c 0)) (recv1 m c 1) (recv1 m c 2) (winW m c 2) (woutW m c 2))) Q := by
  simp only [atBufs, k0_part13_eq_skeleton]; unfold k0_part13_skel
  simp only [Prog.lift, Prog.bind_op, Prog.bind_ret, Prog.pure_eq_ret, runs, wp_deviceId, semSignalWord, semWaitWord, one_toInt, three_toInt]
  iintro ⟨#Hk, ⟨HO, Hf, A0, F20⟩, Hgo⟩
  iapply (step_load_send c 2) $$ [Hf]
  · iexact Hf
  iintro %v Hf
  iapply (step_store_send c 2 (k0_pay10 (k0_pay9 (part1 m c) (k0_pay7 (recv1 m c 0)) (recv1 m c 1) (recv1 m c 2) (winW m c 2) (woutW m c 2)))) $$ [Hf]
  · iexact Hf
  iintro HT
  ihave HT' := (Entails.of_eq (show thirds c 2 (unsend (k0_pay10 (k0_pay9 (part1 m c) (k0_pay7 (recv1 m c 0)) (recv1 m c 1) (recv1 m c 2) (winW m c 2) (woutW m c 2)))) = iprop(held (sendM 2) c (third 0) (sent m c 2) ∗ held (sendM 2) c (third 1) (sent m c 2) ∗ held (sendM 2) c (third 2) (sent m c 2)) from rfl)) $$ HT
  icases HT' with ⟨T0, T1, T2⟩
  ihave R0 := (rdy_intro m c 2 0) $$ [A0 T0 F20]
  · isplitl [A0]; · iexact A0
    isplitl [T0]; · iexact T0
    iexact F20
  iapply (step_go m K c 2 0 Ls _ (dev10_eq c)) $$ [HO R0]
  · isplitr; · iexact Hk
    isplitl [HO]; · iexact HO
    iexact R0
  iintro ⟨HO, X0⟩
  iapply step_ret
  iapply Hgo
  isplitl [HO]; · iexact HO
  isplitl [X0]; · iexact X0
  isplitl [T1]; · iexact T1
  iexact T2

/-- Part 14: its second send. -/
theorem part14_runs (c : Dev nD) (Ls : List Pay) (v2 x y : BitVec 32) (z u : BitVec 1) (w : BitVec 32) (Q : (Σ' (_ : BitVec 32), BitVec 32) → sProp 𝕄) :
    iprop(ctx m K ∗ (ows c (.inr (2, 1) :: Ls) ∗ rdy m c 2 1)
        ∗ (∀ x y, (ows c Ls ∗ xB (F := F) c 2 1) -∗ Q ⟨x, y⟩))
      ⊢ runs c (atBufs k0_part14 c v2 x y z u w) Q := by
  simp only [atBufs, k0_part14_eq_skeleton]; unfold k0_part14_skel
  simp only [Prog.lift, Prog.bind_op, Prog.bind_ret, Prog.pure_eq_ret, runs, wp_deviceId, semSignalWord, semWaitWord, one_toInt, three_toInt]
  iintro ⟨#Hk, ⟨HO, R1⟩, Hgo⟩
  iapply (step_go m K c 2 1 Ls _ (dev11_eq c)) $$ [HO R1]
  · isplitr; · iexact Hk
    isplitl [HO]; · iexact HO
    iexact R1
  iintro ⟨HO, X1⟩
  iapply step_ret
  iapply Hgo
  isplitl [HO]; · iexact HO
  iexact X1

/-- Part 15: its third, and two arrivals. -/
theorem part15_runs (c : Dev nD) (a b : BitVec 32) (Q : (PUnit) → sProp 𝕄) :
    iprop(ctx m K ∗ (ows c [.inr (2, 2)] ∗ rdy m c 2 2 ∗ xB (F := F) c 2 0)
        ∗ ((ows c [] ∗ xC m c 2 0 ∗ xC m c 2 2) -∗ Q ⟨⟩))
      ⊢ runs c (atBufs k0_part15 c a b) Q := by
  simp only [atBufs, k0_part15_eq_skeleton]; unfold k0_part15_skel
  simp only [Prog.lift, Prog.bind_op, Prog.bind_ret, Prog.pure_eq_ret, runs, wp_deviceId, semSignalWord, semWaitWord, one_toInt, three_toInt]
  iintro ⟨#Hk, ⟨HO, R2, X0⟩, Hgo⟩
  iapply (step_go m K c 2 2 [] _ (dev12_eq c)) $$ [HO R2]
  · isplitr; · iexact Hk
    isplitl [HO]; · iexact HO
    iexact R2
  iintro ⟨HO, X2⟩
  iapply (step_arrive m K c 2 0 [] (by decide)) $$ [HO X0]
  · isplitr; · iexact Hk
    isplitl [HO]; · iexact HO
    iexact X0
  iintro ⟨HO, X0⟩
  iapply (step_arrive m K c 2 2 [] (by decide)) $$ [HO X2]
  · isplitr; · iexact Hk
    isplitl [HO]; · iexact HO
    iexact X2
  iintro ⟨HO, X2⟩
  iapply step_ret
  iapply Hgo
  isplitl [HO]; · iexact HO
  isplitl [X0]; · iexact X0
  iexact X2

/-- Part 16: its last arrival, the loads of all three, and the store of the result. -/
theorem part16_runs (c : Dev nD) (f : Buf (Elt F) ((c : Thread nD τ).loc cc0_stg1_0)) (a : BitVec 32) (Q : (PUnit) → sProp 𝕄) :
    iprop(ctx m K ∗ (ows c [] ∗ xC m c 2 0 ∗ xB (F := F) c 2 1 ∗ xC m c 2 2 ∗ oS c f)
        ∗ ((ows c [] ∗ xC m c 2 0 ∗ xC m c 2 1 ∗ xC m c 2 2 ∗ oS c (outAt m c)) -∗ Q ⟨⟩))
      ⊢ runs c (atBufs k0_part16 (part2 m c) a) Q := by
  simp only [atBufs, k0_part16_eq_skeleton]; unfold k0_part16_skel
  simp only [Prog.lift, Prog.bind_op, Prog.bind_ret, Prog.pure_eq_ret, runs, wp_deviceId, semSignalWord, semWaitWord, one_toInt, three_toInt]
  rw [show outAt m c = k0_pay11 (part2 m c) (land (sent m (pe c (Fin.rev 0)) 2)) (land (sent m (pe c (Fin.rev 1)) 2)) (land (sent m (pe c (Fin.rev 2)) 2)) from rfl]
  iintro ⟨#Hk, ⟨HO, X0, X1, X2, Ho⟩, Hgo⟩
  iapply (step_arrive m K c 2 1 [] (by decide)) $$ [HO X1]
  · isplitr; · iexact Hk
    isplitl [HO]; · iexact HO
    iexact X1
  iintro ⟨HO, X1⟩
  iapply (step_load_comm m c 2 0) $$ [X0]
  · iexact X0
  iintro X0
  iapply (step_load_comm m c 2 1) $$ [X1]
  · iexact X1
  iintro X1
  iapply (step_load_comm m c 2 2) $$ [X2]
  · iexact X2
  iintro X2
  unfold oS
  iapply (wp_load 𝒱₀ (c : Thread nD τ) none Set.univ (m := Memref.whole cc0_stg1_0) (Finset.subset_univ _)) $$ Ho; iintro Ho
  iapply (wp_store 𝒱₀ (c : Thread nD τ) none Set.univ (m := Memref.whole cc0_stg1_0) (r := Rect.unit (s := S128x128) ![0, 0] S128x128.size inb_S128x128_S128x128_0_0) (Mk := Finset.univ) (Finset.subset_univ _)) $$ Ho; iintro Ho
  rw [write_out]
  iapply step_ret
  iapply Hgo
  isplitl [HO]; · iexact HO
  isplitl [X0]; · iexact X0
  isplitl [X1]; · iexact X1
  isplitl [X2]; · iexact X2
  iexact Ho

/-- Part 17: layer 0's sends are complete. -/
theorem part17_runs (c : Dev nD) (Q : (PUnit) → sProp 𝕄) :
    iprop(ctx m K ∗ (ows c [] ∗ xC m c 0 0 ∗ xC m c 0 1 ∗ xC m c 0 2)
        ∗ ((ows c [] ∗ xD m c 0 0 ∗ xD m c 0 1 ∗ xD m c 0 2) -∗ Q ⟨⟩))
      ⊢ runs c (atBufs k0_part17) Q := by
  simp only [atBufs, k0_part17_eq_skeleton]; unfold k0_part17_skel
  simp only [Prog.lift, Prog.bind_op, Prog.bind_ret, Prog.pure_eq_ret, runs, wp_deviceId, semSignalWord, semWaitWord, one_toInt, three_toInt]
  iintro ⟨#Hk, ⟨HO, X00, X01, X02⟩, Hgo⟩
  iapply (step_drain m K c 0 0) $$ [HO X00]
  · isplitr; · iexact Hk
    isplitl [HO]; · iexact HO
    iexact X00
  iintro ⟨HO, X00⟩
  iapply (step_drain m K c 0 1) $$ [HO X01]
  · isplitr; · iexact Hk
    isplitl [HO]; · iexact HO
    iexact X01
  iintro ⟨HO, X01⟩
  iapply (step_drain m K c 0 2) $$ [HO X02]
  · isplitr; · iexact Hk
    isplitl [HO]; · iexact HO
    iexact X02
  iintro ⟨HO, X02⟩
  iapply step_ret
  iapply Hgo
  isplitl [HO]; · iexact HO
  isplitl [X00]; · iexact X00
  isplitl [X01]; · iexact X01
  iexact X02

/-- Part 18: layer 1's, and the first of layer 2's. -/
theorem part18_runs (c : Dev nD) (Q : (PUnit) → sProp 𝕄) :
    iprop(ctx m K ∗ (ows c [] ∗ xC m c 1 0 ∗ xC m c 1 1 ∗ xC m c 1 2 ∗ xC m c 2 0)
        ∗ ((ows c [] ∗ xD m c 1 0 ∗ xD m c 1 1 ∗ xD m c 1 2 ∗ xD m c 2 0) -∗ Q ⟨⟩))
      ⊢ runs c (atBufs k0_part18) Q := by
  simp only [atBufs, k0_part18_eq_skeleton]; unfold k0_part18_skel
  simp only [Prog.lift, Prog.bind_op, Prog.bind_ret, Prog.pure_eq_ret, runs, wp_deviceId, semSignalWord, semWaitWord, one_toInt, three_toInt]
  iintro ⟨#Hk, ⟨HO, X10, X11, X12, X20⟩, Hgo⟩
  iapply (step_drain m K c 1 0) $$ [HO X10]
  · isplitr; · iexact Hk
    isplitl [HO]; · iexact HO
    iexact X10
  iintro ⟨HO, X10⟩
  iapply (step_drain m K c 1 1) $$ [HO X11]
  · isplitr; · iexact Hk
    isplitl [HO]; · iexact HO
    iexact X11
  iintro ⟨HO, X11⟩
  iapply (step_drain m K c 1 2) $$ [HO X12]
  · isplitr; · iexact Hk
    isplitl [HO]; · iexact HO
    iexact X12
  iintro ⟨HO, X12⟩
  iapply (step_drain m K c 2 0) $$ [HO X20]
  · isplitr; · iexact Hk
    isplitl [HO]; · iexact HO
    iexact X20
  iintro ⟨HO, X20⟩
  iapply step_ret
  iapply Hgo
  isplitl [HO]; · iexact HO
  isplitl [X10]; · iexact X10
  isplitl [X11]; · iexact X11
  isplitl [X12]; · iexact X12
  iexact X20

end Parts

/-- What the body starts from, -/
def bodyA (c : Dev nD) (f : Buf (Elt F) ((c : Thread nD τ).loc cc0_stg1_0)) : sProp 𝕄 :=
  iprop(ows c (.inl 0 :: .inl 1 :: .inl 2 :: due0)
    ∗ (inA m c 0 ∗ inA m c 1 ∗ inA m c 2) ∗ (outA m c 0 ∗ outA m c 1 ∗ outA m c 2)
    ∗ (sgA (F := F) c 0 ∗ sgA (F := F) c 1 ∗ sgA (F := F) c 2) ∗ (pos₀ (F := F) c brC ∗ cred (tallyAt (kcell c brC) () 3))
    ∗ ((xA (F := F) c 0 0 ∗ xA (F := F) c 0 1 ∗ xA (F := F) c 0 2) ∗ (xA (F := F) c 1 0 ∗ xA (F := F) c 1 1 ∗ xA (F := F) c 1 2)
      ∗ (xA (F := F) c 2 0 ∗ xA (F := F) c 2 1 ∗ xA (F := F) c 2 2))
    ∗ (free (F := F) (sendM 0) c ∗ free (F := F) (sendM 1) c ∗ free (F := F) (sendM 2) c) ∗ xS m c ∗ oS c f)

/-- and what it leaves. -/
def bodyZ (c : Dev nD) : sProp 𝕄 :=
  iprop(ows (F := F) c [] ∗ (inC m c 0 ∗ inC m c 1 ∗ inC m c 2) ∗ (outC m c 0 ∗ outC m c 1 ∗ outC m c 2) ∗ pos₁ (F := F) c brC
    ∗ ((xD m c 0 0 ∗ xD m c 0 1 ∗ xD m c 0 2) ∗ (xD m c 1 0 ∗ xD m c 1 1 ∗ xD m c 1 2) ∗ (xD m c 2 0 ∗ xD m c 2 1 ∗ xD m c 2 2))
    ∗ xS m c ∗ oS c (outAt m c))

/-- A program's end, after an update. -/
theorem step_done (c : Dev nD) (a : α) : (iprop(|={Set.univ}=> Q a) : sProp 𝕄) ⊢ runs c (.ret a) Q := by
  unfold runs
  rw [wp_ret]

/-- The body runs from the one to the other. -/
theorem sound_body (c : Dev nD) (f : Buf (Elt F) ((c : Thread nD τ).loc cc0_stg1_0)) (Kt : PUnit → sProp 𝕄) :
    iprop(ctx m K ∗ bodyA m c f ∗ (bodyZ m c -∗ |={Set.univ}=> Kt ⟨⟩)) ⊢ runs c (atBufs cc0_body) Kt := by
  simp only [atBufs, cc0_body_eq_skeleton]; unfold cc0_body_skel
  simp only [runs, wp_bind]
  unfold bodyA
  iintro ⟨#Hk, ⟨HO, ⟨I0, I1, I2⟩, ⟨O0, O1, O2⟩, ⟨G0, G1, G2⟩, ⟨Hp, Hc⟩, ⟨⟨A00, A01, A02⟩, ⟨A10, A11, A12⟩, ⟨A20, A21, A22⟩⟩, ⟨E0, E1, E2⟩, Hx, Ho⟩, Hgo⟩
  iapply (part1_runs m K c)
  isplitr; · iexact Hk
  isplitl [I0 O0 I1 O1 I2]
  · isplitl [I0]; · iexact I0
    isplitl [O0]; · iexact O0
    isplitl [I1]; · iexact I1
    isplitl [O1]; · iexact O1
    iexact I2
  iintro %v2 ⟨I0, O0, I1, O1, I2⟩
  iapply (part2_runs m K c _ _)
  isplitr; · iexact Hk
  isplitl [HO O2 G0 G1]
  · isplitl [HO]; · iexact HO
    isplitl [O2]; · iexact O2
    isplitl [G0]; · iexact G0
    iexact G1
  iintro %x1 %y1 %z1 ⟨HO, O2⟩
  iapply (part3_runs m K c _ _ _)
  isplitr; · iexact Hk
  isplitl [HO G2 Hx I0 O0]
  · isplitl [HO]; · iexact HO
    isplitl [G2]; · iexact G2
    isplitl [Hx]; · iexact Hx
    isplitl [I0]; · iexact I0
    iexact O0
  iintro ⟨HO, Hx, I0, O0⟩
  iapply (part4_runs m K c _)
  isplitr; · iexact Hk
  isplitl [HO E0 Hp Hc A00 A01 A02]
  · isplitl [HO]; · iexact HO
    isplitl [E0]; · iexact E0
    isplitl [Hp]; · iexact Hp
    isplitl [Hc]; · iexact Hc
    isplitl [A00]; · iexact A00
    isplitl [A01]; · iexact A01
    iexact A02
  iintro %x2 %y2 %z2 ⟨HO, Hp, X00, R01, R02, F10, F11, F12, F20, F21, F22⟩
  iapply (part5_runs m K c _ _ _ _)
  isplitr; · iexact Hk
  isplitl [HO R01]
  · isplitl [HO]; · iexact HO
    iexact R01
  iintro %x3 %y3 ⟨HO, X01⟩
  iapply (part6_runs m K c _ _)
  isplitr; · iexact Hk
  isplitl [HO R02 X00]
  · isplitl [HO]; · iexact HO
    isplitl [R02]; · iexact R02
    iexact X00
  iintro ⟨HO, X02, X00⟩
  iapply (part7_runs m K c _)
  isplitr; · iexact Hk
  isplitl [HO X00 X01 X02]
  · isplitl [HO]; · iexact HO
    isplitl [X00]; · iexact X00
    isplitl [X01]; · iexact X01
    iexact X02
  iintro ⟨HO, X00, X01, X02⟩
  iapply (part8_runs m K c _)
  isplitr; · iexact Hk
  isplitl [HO I1 O1 E1]
  · isplitl [HO]; · iexact HO
    isplitl [I1]; · iexact I1
    isplitl [O1]; · iexact O1
    iexact E1
  iintro %x4 ⟨HO, I1, O1, T0, T1, T2⟩
  ihave R10 := (rdy_intro m c 1 0) $$ [A10 T0 F10]
  · isplitl [A10]; · iexact A10
    isplitl [T0]; · iexact T0
    iexact F10
  ihave R11 := (rdy_intro m c 1 1) $$ [A11 T1 F11]
  · isplitl [A11]; · iexact A11
    isplitl [T1]; · iexact T1
    iexact F11
  ihave R12 := (rdy_intro m c 1 2) $$ [A12 T2 F12]
  · isplitl [A12]; · iexact A12
    isplitl [T2]; · iexact T2
    iexact F12
  iapply (part9_runs m K c _ _ _)
  isplitr; · iexact Hk
  isplitl [HO R10]
  · isplitl [HO]; · iexact HO
    iexact R10
  iintro %x5 ⟨HO, X10⟩
  iapply (part10_runs m K c _ _ _)
  isplitr; · iexact Hk
  isplitl [HO R11 R12]
  · isplitl [HO]; · iexact HO
    isplitl [R11]; · iexact R11
    iexact R12
  iintro %x6 ⟨HO, X11, X12⟩
  iapply (part11_runs m K c _ _)
  isplitr; · iexact Hk
  isplitl [HO X10 X11 X12]
  · isplitl [HO]; · iexact HO
    isplitl [X10]; · iexact X10
    isplitl [X11]; · iexact X11
    iexact X12
  iintro ⟨HO, X10, X11, X12⟩
  iapply (part12_runs m K c)
  isplitr; · iexact Hk
  isplitl [HO X11 X12 I2 O2]
  · isplitl [HO]; · iexact HO
    isplitl [X11]; · iexact X11
    isplitl [X12]; · iexact X12
    isplitl [I2]; · iexact I2
    iexact O2
  iintro ⟨HO, X11, X12, I2, O2⟩
  iapply (part13_runs m K c _ _)
  isplitr; · iexact Hk
  isplitl [HO E2 A20 F20]
  · isplitl [HO]; · iexact HO
    isplitl [E2]; · iexact E2
    isplitl [A20]; · iexact A20
    iexact F20
  iintro %x7 %y7 %z7 %u7 %v7 %w7 ⟨HO, X20, T1, T2⟩
  ihave R21 := (rdy_intro m c 2 1) $$ [A21 T1 F21]
  · isplitl [A21]; · iexact A21
    isplitl [T1]; · iexact T1
    iexact F21
  ihave R22 := (rdy_intro m c 2 2) $$ [A22 T2 F22]
  · isplitl [A22]; · iexact A22
    isplitl [T2]; · iexact T2
    iexact F22
  iapply (part14_runs m K c _ _ _ _ _ _ _)
  isplitr; · iexact Hk
  isplitl [HO R21]
  · isplitl [HO]; · iexact HO
    iexact R21
  iintro %x8 %y8 ⟨HO, X21⟩
  iapply (part15_runs m K c _ _)
  isplitr; · iexact Hk
  isplitl [HO R22 X20]
  · isplitl [HO]; · iexact HO
    isplitl [R22]; · iexact R22
    iexact X20
  iintro ⟨HO, X20, X22⟩
  iapply (part16_runs m K c f _)
  isplitr; · iexact Hk
  isplitl [HO X20 X21 X22 Ho]
  · isplitl [HO]; · iexact HO
    isplitl [X20]; · iexact X20
    isplitl [X21]; · iexact X21
    isplitl [X22]; · iexact X22
    iexact Ho
  iintro ⟨HO, X20, X21, X22, Ho⟩
  iapply (part17_runs m K c)
  isplitr; · iexact Hk
  isplitl [HO X00 X01 X02]
  · isplitl [HO]; · iexact HO
    isplitl [X00]; · iexact X00
    isplitl [X01]; · iexact X01
    iexact X02
  iintro ⟨HO, X00, X01, X02⟩
  iapply (part18_runs m K c)
  isplitr; · iexact Hk
  isplitl [HO X10 X11 X12 X20]
  · isplitl [HO]; · iexact HO
    isplitl [X10]; · iexact X10
    isplitl [X11]; · iexact X11
    isplitl [X12]; · iexact X12
    iexact X20
  iintro ⟨HO, X10, X11, X12, X20⟩
  simp only [Prog.lift, Prog.bind_op, Prog.bind_ret, Prog.pure_eq_ret]
  iapply (step_drain m K c 2 1) $$ [HO X21]
  · isplitr; · iexact Hk
    isplitl [HO]; · iexact HO
    iexact X21
  iintro ⟨HO, X21⟩
  iapply step_ret
  iapply (step_drain m K c 2 2) $$ [HO X22]
  · isplitr; · iexact Hk
    isplitl [HO]; · iexact HO
    iexact X22
  iintro ⟨HO, X22⟩
  iapply step_ret
  iapply step_done
  iapply Hgo
  unfold bodyZ
  isplitl [HO]; · iexact HO
  isplitl [I0 I1 I2]
  · isplitl [I0]; · iexact I0
    isplitl [I1] <;> iassumption
  isplitl [O0 O1 O2]
  · isplitl [O0]; · iexact O0
    isplitl [O1] <;> iassumption
  isplitl [Hp]; · iexact Hp
  isplitl [X00 X01 X02 X10 X11 X12 X20 X21 X22]
  · isplitl [X00 X01 X02]
    · isplitl [X00]; · iexact X00
      isplitl [X01] <;> iassumption
    isplitl [X10 X11 X12]
    · isplitl [X10]; · iexact X10
      isplitl [X11] <;> iassumption
    isplitl [X20]; · iexact X20
    isplitl [X21] <;> iassumption
  isplitl [Hx] <;> iassumption

end Cert.Mlp
-- ==== Proof.Deal.lean ====
/-
What a device is dealt at launch, sorted: the scratch buffers cut into slots, the ghost state of the protocol's cells dealt
to the devices that pay the duties, and the credit for what the peers owe.
-/
module

public import proofs.«01_k».proof.Proof.Body
public import Idealize.ShloMosaic.Lib.Ring

@[expose] public section

noncomputable section

namespace Cert.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ)

/-- Three conjuncts one by one. -/
theorem three (Φ : Fin 3 → sProp 𝕄) : bigSep Finset.univ Φ = iprop(Φ 0 ∗ Φ 1 ∗ Φ 2) := bigSep_univ_eq_bigSepL [0, 1, 2] (by decide) (by decide) Φ

/-- Two entailments side by side. -/
theorem both {P P' R R' : sProp 𝕄} (h : P ⊢ P') (h' : R ⊢ R') : iprop(P ∗ R) ⊢ iprop(P' ∗ R') := by
  iintro ⟨H, H'⟩
  isplitl [H]
  · iapply h; iexact H
  · iapply h'; iexact H'

/-- Conjuncts over two kinds of index. -/
theorem sums {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

/-- A family entails another if each member does; -/
theorem each {I : Type} [Fintype I] {Φ Ψ : I → sProp 𝕄} (h : ∀ i, Φ i ⊢ Ψ i) : bigSep Finset.univ Φ ⊢ bigSep Finset.univ Ψ := bigSep_mono fun i _ => h i
/-- a family entails any of its members. -/
theorem one {I : Type} [Fintype I] [DecidableEq I] (Φ : I → sProp 𝕄) (i : I) : bigSep Finset.univ Φ ⊢ Φ i := bigSep_elim (Finset.mem_univ i)

/-! ## Buffers and slots -/

section Cut

variable {B : Type} [Fintype B] [DecidableEq B] (b : Ref sig .tc) (R : B → Rect b.ty.shape) (s' : Shape)
  (hr : ∀ i a, (R i).stride a = 1) (h : ∀ i, (R i).shape.Squeezes s')
  (hd : ∀ i j, i ≠ j → Disjoint (R i).set (R j).set) (hc : Finset.univ.biUnion (fun i => (R i).set) = Finset.univ)

theorem slot_free (c : Dev nD) (i : B) : (free (F := F) (((Memref.whole b).slice (R i) (hr i)).squeeze s' (h i)) c : sProp 𝕄)
    = iprop(∃ f : Buf (Elt F) ((c : Thread nD τ).loc b), ((c : Thread nD τ).loc b) ↦[(R i).set]{fullShare} f) := by
  have hs : (((Memref.whole b).slice (R i) (hr i)).squeeze s' (h i)).view.set = (R i).set :=
    (set_slot (Memref.whole b) (R i) (hr i) (h i)).trans (View.set_slice_whole b (R i))
  unfold free
  rw [hs]

include hd hc in
/-- A buffer is its slots; -/
theorem cut (c : Dev nD) : (iprop(∃ f : Buf (Elt F) ((c : Thread nD τ).loc b), ((c : Thread nD τ).loc b) ↦{fullShare} f) : sProp 𝕄)
    ⊢ bigSep Finset.univ fun i => free (F := F) (((Memref.whole b).slice (R i) (hr i)).squeeze s' (h i)) c := by
  iintro ⟨%f, H⟩
  ihave H' := (Entails.of_eq (pointsTo_blocks (ℓ := (c : Thread nD τ).loc b) (fun i => (R i).set) hd hc f)) $$ H
  iapply (each (Φ := fun i => (((c : Thread nD τ).loc b) ↦[(R i).set]{fullShare} f : sProp 𝕄)) fun i => by
    rw [slot_free b R s' hr h c i]; iintro H; iexists f; iexact H)
  iexact H'

include hd hc in
/-- and its slots are the buffer. -/
theorem join (c : Dev nD) (f₀ : Buf (Elt F) ((c : Thread nD τ).loc b)) :
    (bigSep Finset.univ fun i => free (F := F) (((Memref.whole b).slice (R i) (hr i)).squeeze s' (h i)) c : sProp 𝕄)
    ⊢ iprop(∃ f : Buf (Elt F) ((c : Thread nD τ).loc b), ((c : Thread nD τ).loc b) ↦{fullShare} f) := by
  rw [bigSep_congr (s := Finset.univ) fun i _ => slot_free (F := F) b R s' hr h c i]
  exact pointsTo_blocks_join_exists (ℓ := (c : Thread nD τ).loc b) (fun i => (R i).set) hd hc f₀

end Cut

theorem win_disj : ∀ i j : Fin 3, i ≠ j → Disjoint (winR i).set (winR j).set :=
  lead_disjoint (s := S3x128x256) 0 1 (fun l => ![l.val, 0, 0]) S1x128x256.size inb_win (fun b => (Nat.one_mul _).symm) rfl
theorem win_cover : Finset.univ.biUnion (fun i => (winR i).set) = Finset.univ :=
  lead_cover (s := S3x128x256) 0 1 (fun l => ![l.val, 0, 0]) S1x128x256.size inb_win (fun b => (Nat.one_mul _).symm)
    (fun b a ha => by fin_cases a <;> first | exact absurd rfl ha | rfl) rfl (fun a ha => by fin_cases a <;> first | exact absurd rfl ha | rfl) rfl
theorem wout_disj : ∀ i j : Fin 3, i ≠ j → Disjoint (woutR i).set (woutR j).set :=
  lead_disjoint (s := S3x256x128) 0 1 (fun l => ![l.val, 0, 0]) S1x256x128.size inb_wout (fun b => (Nat.one_mul _).symm) rfl
theorem wout_cover : Finset.univ.biUnion (fun i => (woutR i).set) = Finset.univ :=
  lead_cover (s := S3x256x128) 0 1 (fun l => ![l.val, 0, 0]) S1x256x128.size inb_wout (fun b => (Nat.one_mul _).symm)
    (fun b a ha => by fin_cases a <;> first | exact absurd rfl ha | rfl) rfl (fun a ha => by fin_cases a <;> first | exact absurd rfl ha | rfl) rfl
theorem send_disj : ∀ i j : Fin 3, i ≠ j → Disjoint (sendR i).set (sendR j).set :=
  lead_disjoint (s := S3x128x128) 0 1 (fun l => ![l.val, 0, 0]) S1x128x128.size inb_send (fun b => (Nat.one_mul _).symm) rfl
theorem send_cover : Finset.univ.biUnion (fun i => (sendR i).set) = Finset.univ :=
  lead_cover (s := S3x128x128) 0 1 (fun l => ![l.val, 0, 0]) S1x128x128.size inb_send (fun b => (Nat.one_mul _).symm)
    (fun b a ha => by fin_cases a <;> first | exact absurd rfl ha | rfl) rfl (fun a ha => by fin_cases a <;> first | exact absurd rfl ha | rfl) rfl

/-- The landing slots, by distance first. -/
abbrev commR' (x : Fin 3 × Fin 3) : Rect S3x3x128x128 := commR x.2 x.1

theorem comm_disj : ∀ i j : Fin 3 × Fin 3, i ≠ j → Disjoint (commR' i).set (commR' j).set := by
  rintro ⟨k, l⟩ ⟨k', l'⟩ hne
  rw [Finset.disjoint_left]
  intro i hi hi'
  have h0 := (Rect.mem_set_unit.mp hi) 0
  have h1 := (Rect.mem_set_unit.mp hi) 1
  have h0' := (Rect.mem_set_unit.mp hi') 0
  have h1' := (Rect.mem_set_unit.mp hi') 1
  change l.val ≤ _ ∧ _ < l.val + 1 at h0
  change k.val ≤ _ ∧ _ < k.val + 1 at h1
  change l'.val ≤ _ ∧ _ < l'.val + 1 at h0'
  change k'.val ≤ _ ∧ _ < k'.val + 1 at h1'
  exact hne (Prod.ext (Fin.ext (show k.val = k'.val by omega)) (Fin.ext (show l.val = l'.val by omega)))
theorem comm_cover : Finset.univ.biUnion (fun x => (commR' x).set) = Finset.univ := by
  ext i
  simp only [Finset.mem_biUnion, Finset.mem_univ, true_and, iff_true]
  refine ⟨(i 1, i 0), Rect.mem_set_unit.mpr fun a => ?_⟩
  have := (i a).isLt
  fin_cases a
  · exact ⟨Nat.le_refl _, Nat.lt_succ_self _⟩
  · exact ⟨Nat.le_refl _, Nat.lt_succ_self _⟩
  · exact ⟨Nat.zero_le _, lt_of_lt_of_eq this (Nat.zero_add _).symm⟩
  · exact ⟨Nat.zero_le _, lt_of_lt_of_eq this (Nat.zero_add _).symm⟩

/-- A device's scratch memory, slot by slot. -/
def scratch (c : Dev nD) : sProp 𝕄 :=
  iprop((bigSep Finset.univ fun l => free (F := F) (winM l) c) ∗ (bigSep Finset.univ fun l => free (F := F) (woutM l) c)
    ∗ (bigSep Finset.univ fun l => free (F := F) (sendM l) c) ∗ (bigSep Finset.univ fun x : Fin 3 × Fin 3 => free (F := F) (commM x.2 x.1) c))

theorem scratch_intro (c : Dev nD) : (Pipeline.scopedRest (Ix := Unit) (Name := ℕ) (U := UU) (Lvl := ℕ) (Val := Elt F) spec0 c : sProp 𝕄) ⊢ scratch c := by
  rw [scopedRest0_eq]
  unfold scratch
  exact both (cut cc0_scratch0 winR S128x256 (fun _ _ => rfl) (fun _ => squeezes_S1x128x256_S128x256) win_disj win_cover c)
    (both (cut cc0_scratch1 woutR S256x128 (fun _ _ => rfl) (fun _ => squeezes_S1x256x128_S256x128) wout_disj wout_cover c)
      (both (cut cc0_scratch3 sendR S128x128 (fun _ _ => rfl) (fun _ => squeezes_S1x128x128_S128x128) send_disj send_cover c)
        (cut cc0_scratch4 commR' S128x128 (fun _ _ => rfl) (fun _ => squeezes_S1x1x128x128_S128x128) comm_disj comm_cover c)))

theorem scratch_exit (c : Dev nD) : scratch c ⊢ (Pipeline.scopedRest (Ix := Unit) (Name := ℕ) (U := UU) (Lvl := ℕ) (Val := Elt F) spec0 c : sProp 𝕄) := by
  rw [scopedRest0_eq]
  unfold scratch
  exact both (join cc0_scratch0 winR S128x256 (fun _ _ => rfl) (fun _ => squeezes_S1x128x256_S128x256) win_disj win_cover c (fun _ => Classical.ofNonempty))
    (both (join cc0_scratch1 woutR S256x128 (fun _ _ => rfl) (fun _ => squeezes_S1x256x128_S256x128) wout_disj wout_cover c (fun _ => Classical.ofNonempty))
      (both (join cc0_scratch3 sendR S128x128 (fun _ _ => rfl) (fun _ => squeezes_S1x128x128_S128x128) send_disj send_cover c (fun _ => Classical.ofNonempty))
        (join cc0_scratch4 commR' S128x128 (fun _ _ => rfl) (fun _ => squeezes_S1x1x128x128_S128x128) comm_disj comm_cover c (fun _ => Classical.ofNonempty))))

/-! ## The weights' arrays -/

theorem hbmI_whole (c : Dev nD) (l : Fin 3) :
    (hbmI m c l : sProp 𝕄) = ((winH l).view.loc (c : Thread nD τ) ↦{fullShare} m ((winH l).view.loc (c : Thread nD τ))) := by
  have hs : (winH l).view.set = Finset.univ := by fin_cases l <;> exact View.set_whole _
  unfold hbmI; rw [hs]
theorem hbmO_whole (c : Dev nD) (l : Fin 3) :
    (hbmO m c l : sProp 𝕄) = ((woutH l).view.loc (c : Thread nD τ) ↦{fullShare} m ((woutH l).view.loc (c : Thread nD τ))) := by
  have hs : (woutH l).view.set = Finset.univ := by fin_cases l <;> exact View.set_whole _
  unfold hbmO; rw [hs]

/-- A device's six weight arrays at their contents at launch. -/
def weights (c : Dev nD) : sProp 𝕄 := iprop((bigSep Finset.univ fun l => hbmI m c l) ∗ bigSep Finset.univ fun l => hbmO m c l)

theorem weights_intro (c : Dev nD) :
    (Pipeline.unscopedRestP (Ix := Unit) (Name := ℕ) (U := UU) (Lvl := ℕ) Pipeline.Prefetch.none cfg0.spec c (fun b => m ((c : Thread nD τ).loc b)) : sProp 𝕄)
      ⊢ weights m c := by
  rw [Pipeline.unscopedRestP_eq_of_list cfg0.spec c Pipeline.Prefetch.none (fun b => m ((c : Thread nD τ).loc b))
    [main_arg1, main_arg2, main_arg3, main_arg4, main_arg5, main_arg6] (by decide) (by decide)]
  unfold weights
  rw [three, three]
  simp only [hbmI_whole, hbmO_whole, bigSepL_cons_cons, bigSepL_singleton]
  show iprop(_ ∗ _ ∗ _ ∗ _ ∗ _ ∗ _) ⊢ iprop((_ ∗ _ ∗ _) ∗ (_ ∗ _ ∗ _))
  iintro ⟨H1, H2, H3, H4, H5, H6⟩
  isplitl [H1 H2 H3]
  · isplitl [H1]; · iexact H1
    isplitl [H2]; · iexact H2
    iexact H3
  isplitl [H4]; · iexact H4
  isplitl [H5]; · iexact H5
  iexact H6

/-! ## The launch credit -/

theorem owed_due (c : Dev nD) (g : GSem nD τ sig) : owed c due g () = ∑ p : Pay, if g = payCell c p then payAmt p else 0 := by
  have h : ∀ (p : Pay) (Ls : List Pay), owed c (p :: Ls) g () = owed c Ls g () + if g = payCell c p then payAmt p else 0 := fun p Ls => by
    show (owed c Ls + tallyAt (payCell c p) () (payAmt p)) g () = _
    rw [Pi.add_apply, Finsupp.add_apply, tallyAt_apply]
    simp only [and_true]
  have h0 : owed c [] g () = 0 := rfl
  unfold due
  simp only [h, h0, Fintype.sum_sum_type, Fintype.sum_prod_type, Fin.sum_univ_three]
  omega

theorem kcell_inj {c c' : Dev nD} {a a' : AC} (h : kcell c a = kcell c' a') : c = c' ∧ a = a' :=
  ⟨by have := congrArg (fun g : GSem nD τ sig => g.1.1) h; exact this, csem_inj (congrArg Prod.snd h)⟩

theorem owed_bar (c : Dev nD) (d : Dev nD) : owed d due (kcell c brC) () = ∑ k : Fin 3, if d = pe c k.rev then 1 else 0 := by
  rw [owed_due, Fintype.sum_sum_type]
  have h2 : ∑ x : Fin 3 × Fin 3, (if kcell c brC = payCell d (.inr x) then payAmt (.inr x) else 0) = 0 :=
    Finset.sum_eq_zero fun x _ => if_neg fun e => by cases (kcell_inj e).2
  rw [h2, Nat.add_zero]
  refine Finset.sum_congr rfl fun k _ => ?_
  by_cases h : d = pe c k.rev
  · subst h; rw [if_pos rfl]; exact if_pos (by show kcell c brC = kcell (pe (pe c k.rev) k) brC; rw [rev_pe])
  · rw [if_neg h]
    exact if_neg fun e => h (by rw [(kcell_inj e).1]; exact (pe_rev d k).symm)

theorem owed_rv (c : Dev nD) (x : Fin 3 × Fin 3) (d : Dev nD) :
    owed d due (kcell c (rvC x.1 x.2)) () = if d = pe c x.2.rev then (commM x.1 x.2).view.dmaCredit else 0 := by
  rw [owed_due, Fintype.sum_sum_type]
  have h1 : ∑ k : Fin 3, (if kcell c (rvC x.1 x.2) = payCell d (.inl k) then payAmt (.inl k) else 0) = 0 :=
    Finset.sum_eq_zero fun x _ => if_neg fun e => by cases (kcell_inj e).2
  rw [h1, Nat.zero_add, Finset.sum_eq_single x (fun y _ hy => if_neg fun e => hy (by
    have := (kcell_inj e).2; injection this with this; injection this with this; injection this with this; exact this.symm)) (fun h => absurd (Finset.mem_univ _) h)]
  by_cases h : d = pe c x.2.rev
  · subst h; rw [if_pos rfl]; exact if_pos (by show kcell c (rvC x.1 x.2) = kcell (pe (pe c x.2.rev) x.2) (rvC x.1 x.2); rw [rev_pe])
  · rw [if_neg h]
    exact if_neg fun e => h (by rw [(kcell_inj e).1]; exact (pe_rev d x.2).symm)

theorem launch_at (c : Dev nD) (a : AC) (n : ℕ) (h : ∑ d : Dev nD, owed d due (kcell c a) () = n) :
    tallyOn (kcell c a) (launchCredit (Pipeline.owing fun d => owed d due) 0 (kcell c a)) = (tallyAt (kcell c a) () n : CellTallies nD τ sig Unit) := by
  unfold tallyAt; refine congrArg _ (Finsupp.ext fun u => ?_); cases u
  rw [Pipeline.launchCredit_owing, Finsupp.single_eq_same, h]

theorem launch_bar (c : Dev nD) : ∑ d : Dev nD, owed d due (kcell c brC) () = 3 := by
  rw [Finset.sum_congr rfl fun d _ => owed_bar c d, Finset.sum_comm]
  simp only [Finset.sum_ite_eq', Finset.mem_univ, if_true]
  decide
theorem launch_rv (c : Dev nD) (x : Fin 3 × Fin 3) :
    ∑ d : Dev nD, owed d due (kcell c (rvC x.1 x.2)) () = amt (some (rvC x.1 x.2)) := by
  rw [Finset.sum_congr rfl fun d _ => owed_rv c x d, Finset.sum_ite_eq', if_pos (Finset.mem_univ _)]
  rfl

/-- Device `c` has the credit for all it waits on that its peers pay. -/
theorem creds (c : Dev nD) :
    (Pipeline.launchCred (fun d => owed d due) c : sProp 𝕄)
      ⊢ iprop(cred (tallyAt (kcell c brC) () 3) ∗ bigSep Finset.univ fun x : Fin 3 × Fin 3 => crd c (rvC x.1 x.2)) := by
  unfold Pipeline.launchCred
  refine (bigSep_subset (t := Finset.univ.map ⟨csem, csem_inj⟩) (Finset.subset_univ _)).trans ?_
  rw [bigSep_map, sums]
  refine both ?_ ?_
  · iintro H
    ihave H' := (one _ ()) $$ H
    iapply (Entails.of_eq (congrArg (fun t => (cred t : sProp 𝕄)) (launch_at c brC 3 (launch_bar c))))
    iexact H'
  · rw [sums, sums (A := Fin 3 × Fin 3)]
    iintro ⟨-, -, H⟩
    iapply (each fun (x : Fin 3 × Fin 3) => Entails.of_eq (congrArg (fun t => (cred t : sProp 𝕄)) (launch_at c (rvC x.1 x.2) _ (launch_rv c x))))
    iexact H

end Cert.Mlp
-- ==== Proof.Edges.lean ====
/-
The two ends of the body: what the launch and the pipeline hand over, in the order the body wants it, and what the body
leaves, with every counter of its semaphores closed at zero.
-/
module

public import proofs.«01_k».proof.Proof.Deal

@[expose] public section

noncomputable section

namespace Cert.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A family of separated pairs is two families; -/
theorem zipped {I : Type} [Fintype I] (Φ Ψ : I → sProp 𝕄) :
    (bigSep Finset.univ fun i => iprop(Φ i ∗ Ψ i)) = iprop(bigSep Finset.univ Φ ∗ bigSep Finset.univ Ψ) := bigSep_sep' _ _ _
/-- a family over pairs, as three chains of three. -/
theorem nine (Φ : Fin 3 → Fin 3 → sProp 𝕄) :
    (bigSep Finset.univ fun x : Fin 3 × Fin 3 => Φ x.1 x.2)
      = iprop((Φ 0 0 ∗ Φ 0 1 ∗ Φ 0 2) ∗ (Φ 1 0 ∗ Φ 1 1 ∗ Φ 1 2) ∗ (Φ 2 0 ∗ Φ 2 1 ∗ Φ 2 2)) := by
  rw [bigSep_univ_prod (fun x : Fin 3 × Fin 3 => Φ x.1 x.2), three]
  simp only [three]

/-- A family over a point is its one member. -/
theorem alone (Φ : Unit → sProp 𝕄) : bigSep Finset.univ Φ = Φ () := bigSep_univ_eq_bigSepL [()] (by decide) (by decide) Φ

/-- Tokens and positions of device `c`: those of the copies it starts and waits for, and the peers' entry cells it signals. -/
def pieces (c : Dev nD) : sProp 𝕄 :=
  iprop((bigSep Finset.univ fun l : Fin 3 => iprop(tok c (wiC l) 0 ∗ pos₀ c (wiC l)))
    ∗ (bigSep Finset.univ fun l : Fin 3 => iprop(tok c (woC l) 0 ∗ pos₀ c (woC l)))
    ∗ (bigSep Finset.univ fun k : Fin 3 => tok (pe c k) brC k.rev) ∗ pos₀ c brC
    ∗ bigSep Finset.univ fun x : Fin 3 × Fin 3 => iprop(tok c (sdC x.1 x.2) 0 ∗ tok (pe c x.2) (rvC x.1 x.2) 0 ∗ pos₀ c (sdC x.1 x.2) ∗ pos₀ c (rvC x.1 x.2)))

/-- The receive slots of one distance in all three layers, for every distance, counted from the far end. -/
theorem slots_of (c : Dev nD) :
    (bigSep Finset.univ fun x : Fin 3 × Fin 3 => free (F := F) (commM x.2 x.1) c) = bigSep Finset.univ fun k : Fin 3 => slots (F := F) c k.rev := by
  rw [bigSep_univ_prod (fun x : Fin 3 × Fin 3 => free (F := F) (commM x.2 x.1) c),
    bigSep_univ_equiv Fin.revPerm (fun k : Fin 3 => bigSep Finset.univ fun l : Fin 3 => free (F := F) (commM l k) c)]
  exact bigSep_congr fun k _ => three _

/-- A weight's copy in, from its parts; -/
theorem ins_of (c : Dev nD) :
    iprop((bigSep Finset.univ fun l : Fin 3 => iprop(tok c (wiC l) 0 ∗ pos₀ c (wiC l))) ∗ (bigSep Finset.univ fun l => free (F := F) (winM l) c)
      ∗ bigSep Finset.univ fun l => hbmI m c l) ⊢ bigSep Finset.univ fun l => inA m c l := by
  rw [← zipped, ← zipped]
  refine each fun l => ?_
  unfold inA
  iintro ⟨⟨H1, H2⟩, H3, H4⟩
  isplitl [H1]; · iexact H1
  isplitl [H2]; · iexact H2
  isplitl [H3]; · iexact H3
  iexact H4
/-- the same for the second weights. -/
theorem outs_of (c : Dev nD) :
    iprop((bigSep Finset.univ fun l : Fin 3 => iprop(tok c (woC l) 0 ∗ pos₀ c (woC l))) ∗ (bigSep Finset.univ fun l => free (F := F) (woutM l) c)
      ∗ bigSep Finset.univ fun l => hbmO m c l) ⊢ bigSep Finset.univ fun l => outA m c l := by
  rw [← zipped, ← zipped]
  refine each fun l => ?_
  unfold outA
  iintro ⟨⟨H1, H2⟩, H3, H4⟩
  isplitl [H1]; · iexact H1
  isplitl [H2]; · iexact H2
  isplitl [H3]; · iexact H3
  iexact H4

/-- An exchange, from its tokens and the credit for what arrives. -/
theorem xs_of (c : Dev nD) :
    iprop((bigSep Finset.univ fun x : Fin 3 × Fin 3 => iprop(tok c (sdC x.1 x.2) 0 ∗ tok (pe c x.2) (rvC x.1 x.2) 0 ∗ pos₀ c (sdC x.1 x.2) ∗ pos₀ c (rvC x.1 x.2)))
      ∗ bigSep Finset.univ fun x : Fin 3 × Fin 3 => crd c (rvC x.1 x.2)) ⊢ (bigSep Finset.univ fun x : Fin 3 × Fin 3 => xA c x.1 x.2 : sProp 𝕄) := by
  rw [← zipped]
  refine each fun x => ?_
  unfold xA
  iintro ⟨⟨H1, H2, H3, H4⟩, H5⟩
  isplitl [H1]; · iexact H1
  isplitl [H2]; · iexact H2
  isplitl [H3]; · iexact H3
  isplitl [H4]; · iexact H4
  iexact H5

/-- Everything a device starts with is what the body wants. -/
theorem bodyA_intro (c : Dev nD) (f) :
    iprop(ows c due ∗ pieces c ∗ (cred (tallyAt (kcell c brC) () 3) ∗ bigSep Finset.univ fun x : Fin 3 × Fin 3 => crd c (rvC x.1 x.2))
      ∗ weights m c ∗ scratch c ∗ xS m c ∗ oS c f) ⊢ bodyA m c f := by
  unfold bodyA pieces weights scratch
  rw [slots_of]
  iintro ⟨Ho, ⟨Hwi, Hwo, Htb, Hpb, Hx⟩, ⟨Hcb, Hcx⟩, ⟨HI, HO⟩, ⟨Sw, So, Ss, Sc⟩, HxS, HoS⟩
  isplitl [Ho]; · iexact Ho
  isplitl [Hwi Sw HI]
  · iapply (Entails.of_eq (three fun l => inA m c l))
    iapply (ins_of m c) $$ [Hwi Sw HI]
    isplitl [Hwi]; · iexact Hwi
    isplitl [Sw]; · iexact Sw
    iexact HI
  isplitl [Hwo So HO]
  · iapply (Entails.of_eq (three fun l => outA m c l))
    iapply (outs_of m c) $$ [Hwo So HO]
    isplitl [Hwo]; · iexact Hwo
    isplitl [So]; · iexact So
    iexact HO
  isplitl [Htb Sc]
  · iapply (Entails.of_eq (three fun k => sgA (F := F) c k))
    iapply (Entails.of_eq (zipped (fun k : Fin 3 => tok (F := F) (pe c k) brC k.rev) fun k => slots (F := F) c k.rev).symm)
    isplitl [Htb]; · iexact Htb
    iexact Sc
  isplitl [Hpb Hcb]
  · isplitl [Hpb]; · iexact Hpb
    iexact Hcb
  isplitl [Hx Hcx]
  · iapply (Entails.of_eq (nine fun l k => xA (F := F) c l k))
    iapply (xs_of c) $$ [Hx Hcx]
    isplitl [Hx]; · iexact Hx
    iexact Hcx
  isplitl [Ss]
  · iapply (Entails.of_eq (three fun l => free (F := F) (sendM l) c)); iexact Ss
  isplitl [HxS]; · iexact HxS
  iexact HoS

variable (K : Dev nD × AC → ℕ)

/-- A cell past its one round gives its counter back at zero; -/
theorem close_one (c : Dev nD) (a : AC) : iprop(known m K ∗ pos₁ c a) ⊢ (|={Set.univ}=> semVal (kcell c a) 0 : sProp 𝕄) := by
  iintro ⟨#HK, Hp⟩
  iapply (Rounds.cell_close ER (xRd m) (Set.mem_univ _) (fun h => h) (R := 0 + 1) (duties_later m (kcell c a)))
  isplitr
  · iapply (known_inv m K c a); iexact HK
  · iexact Hp

/-- all of a device's cells do. -/
theorem close_all (c : Dev nD) :
    iprop(known m K ∗ bigSep Finset.univ fun a : AC => pos₁ c a) ⊢ (|={Set.univ}=> bigSep Finset.univ fun a : AC => semVal (kcell c a) 0 : sProp 𝕄) := by
  iintro ⟨HK, Hp⟩
  ihave HK' := (BI.bigSep_of_persistent (Finset.univ : Finset AC) (known m K)) $$ HK
  ihave H := (Entails.of_eq (zipped (fun _ : AC => known m K) fun a : AC => pos₁ (F := F) c a).symm) $$ [HK' Hp]
  · isplitl [HK']; · iexact HK'
    iexact Hp
  iapply (bigSep_fupd (E := Set.univ) (Finset.univ : Finset AC) fun a : AC => (semVal (kcell c a) 0 : sProp 𝕄))
  iapply (each fun a => close_one m K c a)
  iexact H

/-- What the body leaves of a weight's copy; -/
theorem ins_done (c : Dev nD) : (bigSep Finset.univ fun l => inC m c l)
    ⊢ iprop((bigSep Finset.univ fun l : Fin 3 => pos₁ c (wiC l)) ∗ (bigSep Finset.univ fun l => free (F := F) (winM l) c) ∗ bigSep Finset.univ fun l => hbmI m c l) := by
  rw [← zipped, ← zipped]
  refine each fun l => ?_
  unfold inC
  iintro ⟨H1, H2, H3⟩
  isplitl [H1]; · iexact H1
  isplitl [H2]; · iapply held_free; iexact H2
  iexact H3
/-- the same for the second weights. -/
theorem outs_done (c : Dev nD) : (bigSep Finset.univ fun l => outC m c l)
    ⊢ iprop((bigSep Finset.univ fun l : Fin 3 => pos₁ c (woC l)) ∗ (bigSep Finset.univ fun l => free (F := F) (woutM l) c) ∗ bigSep Finset.univ fun l => hbmO m c l) := by
  rw [← zipped, ← zipped]
  refine each fun l => ?_
  unfold outC
  iintro ⟨H1, H2, H3⟩
  isplitl [H1]; · iexact H1
  isplitl [H2]; · iapply held_free; iexact H2
  iexact H3

/-- What it leaves of an exchange: both cells past their round, the send slot whole again, the receive slots. -/
theorem xs_done (c : Dev nD) : (bigSep Finset.univ fun x : Fin 3 × Fin 3 => xD m c x.1 x.2)
    ⊢ iprop((bigSep Finset.univ fun l => free (F := F) (sendM l) c) ∗ (bigSep Finset.univ fun x : Fin 3 × Fin 3 => pos₁ c (sdC x.1 x.2))
        ∗ (bigSep Finset.univ fun x : Fin 3 × Fin 3 => pos₁ c (rvC x.1 x.2)) ∗ bigSep Finset.univ fun x : Fin 3 × Fin 3 => free (F := F) (commM x.2 x.1) c) := by
  have hs : (bigSep Finset.univ fun x : Fin 3 × Fin 3 => held (sendM x.1) c (third x.2) (sent m c x.1) : sProp 𝕄)
      ⊢ bigSep Finset.univ fun l => free (F := F) (sendM l) c := by
    rw [bigSep_univ_prod (fun x : Fin 3 × Fin 3 => held (sendM x.1) c (third x.2) (sent m c x.1))]
    refine each fun l => ?_
    rw [three]
    iintro H
    iapply held_free
    iapply (held_thirds (sendM l) c (sent m c l)).2
    iexact H
  have hc : (bigSep Finset.univ fun x : Fin 3 × Fin 3 => held (commM x.1 x.2) c fullShare (sent m (pe c x.2.rev) x.1) : sProp 𝕄)
      ⊢ bigSep Finset.univ fun x : Fin 3 × Fin 3 => free (F := F) (commM x.2 x.1) c := by
    rw [bigSep_univ_equiv (Equiv.prodComm (Fin 3) (Fin 3)) (fun x : Fin 3 × Fin 3 => free (F := F) (commM x.2 x.1) c)]
    exact each fun x => held_free _ _ _
  unfold xD
  rw [zipped, zipped, zipped]
  iintro ⟨H1, H2, H3, H4⟩
  isplitl [H1]; · iapply hs; iexact H1
  isplitl [H2]; · iexact H2
  isplitl [H3]; · iexact H3
  iapply hc; iexact H4

/-- After the body: the buffers for what follows, the weights as they were, every counter at zero. -/
def after (c : Dev nD) : sProp 𝕄 := iprop(scratch c ∗ weights m c ∗ bigSep Finset.univ fun a : AC => semVal (kcell c a) 0)

/-- What the body leaves is what the pipeline takes back. -/
theorem bodyZ_exit (c : Dev nD) :
    iprop(known m K ∗ bodyZ m c) ⊢ (|={Set.univ}=> iprop(after m c ∗ ows c [] ∗ xS m c ∗ oS c (outAt m c)) : sProp 𝕄) := by
  unfold bodyZ after scratch weights
  rw [← three (fun l => inC m c l), ← three (fun l => outC m c l), ← nine (fun l k => xD m c l k)]
  iintro ⟨#HK, Ho, HI, HO, Hb, Hx, HxS, HoS⟩
  ihave HI' := (ins_done m c) $$ HI
  icases HI' with ⟨P1, S1, W1⟩
  ihave HO' := (outs_done m c) $$ HO
  icases HO' with ⟨P2, S2, W2⟩
  ihave Hx' := (xs_done m c) $$ Hx
  icases Hx' with ⟨S3, P3, P4, S4⟩
  imod (close_all m K c) $$ [P1 P2 P3 P4 Hb] with Hz
  · isplitr; · iexact HK
    rw [sums, sums, sums, sums]
    isplitl [Hb]
    · rw [alone]; iexact Hb
    isplitl [P1 P2]
    · isplitl [P1]; · iexact P1
      iexact P2
    isplitl [P3]; · iexact P3
    iexact P4
  imodintro
  isplitl [S1 S2 S3 S4 W1 W2 Hz]
  · isplitl [S1 S2 S3 S4]
    · isplitl [S1]; · iexact S1
      isplitl [S2]; · iexact S2
      isplitl [S3]; · iexact S3
      iexact S4
    isplitl [W1 W2]
    · isplitl [W1]; · iexact W1
      iexact W2
    iexact Hz
  isplitl [Ho]; · iexact Ho
  isplitl [HxS]; · iexact HxS
  iexact HoS

end Cert.Mlp

end
-- ==== Proof.Launch.lean ====
/-
The launch: the cells' ghost state is made, every device's semaphores go into the cells' invariants, the tokens are dealt
to the devices that pay the duties, and the run of @main on every device follows.
-/
module

public import proofs.«01_k».proof.Proof.Edges
public import Idealize.ShloMosaic.Lib.Pipeline.Launch
public import Idealize.ShloMosaic.Lib.Pipeline.Kit
public import Idealize.ShloMosaic.Lib.Pipeline.CollectiveSegs
public import Idealize.ShloMosaic.Lib.Quiescent

@[expose] public section

noncomputable section

namespace Cert.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What a device holds as the body starts. -/
def start (c : Dev nD) : sProp 𝕄 :=
  iprop((∃ K, ctx m K ∗ pieces c) ∗ (cred (tallyAt (kcell c brC) () 3) ∗ bigSep Finset.univ fun x : Fin 3 × Fin 3 => crd c (rvC x.1 x.2)) ∗ weights m c)

/-- The contents of the staged argument. -/
def xstg (c : Dev nD) : (cc0_stg0_0 : Ref sig .tc).ty.Contents (Elt F) :=
  (win0_0.blk (0 : Fin 1)).view.read (Elt F) (m ((c : Thread nD τ).loc main_arg0))

/-- The argument's one block is the argument. -/
theorem xstg_eq (c : Dev nD) : xstg m c = xin m c := by
  unfold xstg xin
  funext i
  show m ((c : Thread nD τ).loc main_arg0) _ = m ((c : Thread nD τ).loc main_arg0) i
  refine congrArg _ (funext fun a => Fin.ext ?_)
  fin_cases a <;> exact (Nat.zero_add _).trans (Nat.one_mul _)

/-- The two windows before and after the body, what the devices hold and owe. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => iprop(start m c ∗ scratch c)
    | ⟨_ + 1, _⟩ => after m c
  q _ := fullShare
  owed t := match t with
    | ⟨0, _⟩ => owed c due
    | ⟨_ + 1, _⟩ => 0

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the body is called with; -/
def pre (c : Dev nD) : sProp 𝕄 :=
  iprop((start m c ∗ scratch c) ∗ (dats m 0 c).owesAt () t0_0.castSucc
    ∗ (∃ d, stg c cc0_stg0_0 ((dats m 0 c).before (0 : Fin 2) t0_0 d)) ∗ (∃ d, stg c cc0_stg1_0 ((dats m 0 c).before (1 : Fin 2) t0_0 d)))
/-- what it returns. -/
def post (c : Dev nD) : sProp 𝕄 :=
  iprop(after m c ∗ (dats m 0 c).owesAt () t0_0.succ ∗ stg c cc0_stg0_0 (xstg m c) ∗ stg c cc0_stg1_0 (outAt m c))

/-- The body takes the one to the other. -/
theorem body_pre (c : Dev nD) : pre m c ⊢ runs c (atBufs cc0_body) fun _ => post m c := by
  unfold pre start
  iintro ⟨⟨⟨⟨%K, #Hctx, Hp⟩, Hcr, Hw⟩, Hs⟩, Ho, ⟨%d0, %g0, %hg0, Hx⟩, ⟨%d1, %g1, %hg1, Hout⟩⟩
  have hx : g0 = xin m c := by
    rw [hg0]; unfold Dat.before; rw [if_pos (show (cfg0.win (0 : Fin 2)).fetch t0_0 = true from rfl)]; exact xstg_eq m c
  subst hx
  unfold Dat.owesAt Pipeline.owesWithin
  icases Ho with ⟨%W, %hW, HO⟩
  rw [show (dats m 0 c).owed t0_0.castSucc = owed c due from rfl]
  iapply (sound_body m K c g1 fun _ => post m c)
  isplitr; · iexact Hctx
  isplitl
  · iapply (bodyA_intro m c g1)
    isplitl [HO]; · unfold ows; iexists W; iexact HO
    isplitl [Hp]; · iexact Hp
    isplitl [Hcr]; · iexact Hcr
    isplitl [Hw]; · iexact Hw
    isplitl [Hs]; · iexact Hs
    isplitl [Hx]; · unfold xS; iexact Hx
    unfold oS; iexact Hout
  · iintro HZ
    imod (bodyZ_exit m K c) $$ [HZ] with ⟨Ha, Ho, Hx, Hout⟩
    · isplitr
      · unfold ctx; icases Hctx with ⟨Hk, -⟩; iexact Hk
      · iexact HZ
    imodintro
    unfold post ows Dat.owesAt Pipeline.owesWithin
    icases Ho with ⟨%W', HO⟩
    isplitl [Ha]; · iexact Ha
    isplitl [HO]
    · iexists W'
      isplitr; · ipureintro; exact fun _ _ => Or.inl trivial
      rw [show (dats m 0 c).owed t0_0.succ = owed c [] from rfl]
      iexact HO
    isplitl [Hx]
    · iexists (xin m c)
      isplitr; · ipureintro; exact (xstg_eq m c).symm
      unfold xS; iexact Hx
    · iexists (outAt m c)
      isplitr; · ipureintro; rfl
      unfold oS; iexact Hout

/-- The body's obligation at its one point. -/
theorem body_obligation (c : Dev nD) : BodyObligation (dats m 0 c) (defs₀ (F := F)) 𝒱₀ () Set.univ := fun t => by
  rw [fin_N0 t]
  rw [bigSep_W0, bigSep_W0]
  simp only [owns_stg]
  show pre m c ⊢ runs c (atBufs cc0_body) fun _ => post m c
  exact body_pre m c

/-! ## The ghost state made and dealt -/

theorem ownSemFacts : Pipeline.OwnSemFacts cfg0.spec osem where
  isScoped := by decide +kernel
  inj := osem_inj
  disj := by decide +kernel

theorem share_eq (c : Dev nD) (w : Fin cfg0.W) : (dats m 0 c).share w = fullShare := by unfold Dat.share; split <;> rfl

/-- All the devices' cells. -/
def allCells : Finset (GSem nD τ sig) := Finset.univ.map ⟨fun x : Dev nD × AC => kcell x.1 x.2, fun x y h => Prod.ext (kcell_inj h).1 (kcell_inj h).2⟩

/-- A device's duties: one at each of its copies' cells, three at its entry cell. -/
abbrev TC : Type := OC ⊕ Fin 3
/-- The cell of such a duty, and which of the cell's duties it is. -/
abbrev tcell : TC → AC := Sum.elim Sum.inr fun _ => brC
abbrev tduty : TC → Fin 3 := Sum.elim (fun _ => 0) id
abbrev tokAt (x : Dev nD × TC) : GSem nD τ sig × ℕ × Fin 3 := (kcell x.1 (tcell x.2), 0, tduty x.2)
theorem tokAt_inj : Function.Injective tokAt := by
  rintro ⟨c, t⟩ ⟨c', t'⟩ h
  obtain ⟨h1, h2⟩ := kcell_inj (congrArg Prod.fst h)
  have h3 : tduty t = tduty t' := congrArg (fun x => x.2.2) h
  refine Prod.ext h1 ?_
  rcases t with o | d <;> rcases t' with o' | d'
  · exact congrArg Sum.inl (Sum.inr.inj h2)
  · cases h2
  · cases h2
  · exact congrArg Sum.inr h3
def allToks : Finset (GSem nD τ sig × ℕ × Fin 3) := Finset.univ.map ⟨tokAt, tokAt_inj⟩

/-- The ghost state the launch begins with: the pipeline's and the protocol's. -/
def u₀ : UU := (initOf (Pipeline.cells cfgs cellOf_inj) (Pipeline.launchToks cfgs cellOf_inj), initOf allCells allToks)

/-- The tokens of device `c`'s own cells. -/
def toks (c : Dev nD) : sProp 𝕄 := bigSep Finset.univ fun t : TC => tok c (tcell t) (tduty t)

/-- What a device is dealt first; -/
def G (c : Dev nD) : sProp 𝕄 :=
  iprop((bigSep Finset.univ fun a : AC => roundState ER (xRd m) (kcell c a) 0)
    ∗ ((bigSep Finset.univ fun a : AC => pos₀ c a) ∗ bigSep Finset.univ fun a : AC => reached ER (kcell c a) 0) ∗ toks c)
/-- and what it has when the tokens have gone round. -/
def G' (c : Dev nD) : sProp 𝕄 := iprop(∃ K, known m K ∗ pieces c)

/-- The protocol's ghost state is every device's first deal. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun a : AC => Φ (kcell c a) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (xRd m) allCells allToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's counters, the launch's and the kernel's own, cell by cell. -/
theorem counters (c : Dev nD) :
    iprop(unscopedSems0 c ∗ Pipeline.ownSems0 (Ix := Unit) (Name := ℕ) (U := UU) (Lvl := ℕ) (Val := Elt F) (τ := τ) osem c)
      = (bigSep Finset.univ fun a : AC => semVal (kcell c a) 0 : sProp 𝕄) := by
  rw [sums, alone]
  have h : (unscopedSems0 c : sProp 𝕄) = semVal (kcell c brC) 0 := by
    unfold unscopedSems0; rw [bigSep_eq_bigSepL_of_eq [SemLoc.reg barS] (by decide) (by decide)]; rfl
  rw [h]; rfl

/-- A device's counters and round states become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun a : AC => iprop(∃ κ : ℕ, cellInv ER (xRd m) κ (kcell c a)))
          ∗ ((bigSep Finset.univ fun a : AC => pos₀ c a) ∗ bigSep Finset.univ fun a : AC => reached ER (kcell c a) 0) ∗ toks c) := by
  unfold G
  iintro ⟨Hos, Hus, Hst, Hat, Htok⟩
  ihave Hv := (Entails.of_eq (counters (F := F) c)) $$ [Hos Hus]
  · isplitl [Hus] <;> iassumption
  imod (show iprop((bigSep Finset.univ fun a : AC => semVal (kcell c a) 0) ∗ bigSep Finset.univ fun a : AC => roundState ER (xRd m) (kcell c a) 0)
      ⊢ (|={Set.univ}=> bigSep Finset.univ fun a : AC => iprop(∃ κ : ℕ, cellInv ER (xRd m) κ (kcell c a)) : sProp 𝕄) from by
        rw [← zipped]
        exact (bigSep_mono fun a _ => (Rounds.body_intro ER (xRd m) (kcell c a)).trans inv_alloc).trans (bigSep_fupd _ _)) $$ [Hv Hst] with Hinv
  · isplitl [Hv] <;> iassumption
  imodintro
  isplitl [Hinv]; · iexact Hinv
  isplitl [Hat]; · iexact Hat
  iexact Htok

/-- A family every device has, each member taken instead at the peer some distance on. -/
theorem go_round {I : Type} [Fintype I] (Φ : Dev nD → I → sProp 𝕄) (κ : I → Fin 3) :
    (bigSep Finset.univ fun c => bigSep Finset.univ fun i => Φ c i) = bigSep Finset.univ fun c => bigSep Finset.univ fun i => Φ (pe c (κ i)) i := by
  rw [bigSep_univ_comm, bigSep_univ_comm fun c i => Φ (pe c (κ i)) i]
  exact bigSep_congr fun i _ => bigSep_univ_equiv (turn (κ i)) fun c => Φ c i

/-- Every device's tokens and positions, dealt anew, are every device's pieces. -/
theorem deal :
    iprop((bigSep Finset.univ fun c : Dev nD => bigSep Finset.univ fun a : AC => pos₀ c a) ∗ bigSep Finset.univ fun c : Dev nD => toks c)
      ⊢ (bigSep Finset.univ fun c : Dev nD => pieces c : sProp 𝕄) := by
  unfold toks pieces
  have e₁ := fun c : Dev nD => sums (F := F) fun a : AC => pos₀ c a
  have e₂ := fun c : Dev nD => sums (F := F) fun t : TC => tok c (tcell t) (tduty t)
  simp only [e₁, e₂, sums, alone, zipped]
  have hr := go_round (F := F) (fun (c : Dev nD) (x : Fin 3 × Fin 3) => tok c (rvC x.1 x.2) 0) fun x => x.2
  have hb := go_round (F := F) (fun (c : Dev nD) (d : Fin 3) => tok c brC d) fun d => d.rev
  have hb' : (fun c : Dev nD => bigSep Finset.univ fun d : Fin 3 => tok (F := F) (pe c d.rev) brC d) = fun c => bigSep Finset.univ fun k : Fin 3 => tok (pe c k) brC k.rev :=
    funext fun c => (bigSep_univ_equiv Fin.revPerm _).trans (bigSep_congr fun k _ => by
      show tok (pe c k.rev.rev) brC k.rev = tok (pe c k) brC k.rev
      rw [Fin.rev_rev])
  iintro ⟨⟨Pb, ⟨Pi, Po⟩, Ps, Pr⟩, ⟨⟨Ti, To⟩, Ts, Tr⟩, Tb⟩
  isplitl [Ti Pi]
  · isplitl [Ti]; · iexact Ti
    iexact Pi
  isplitl [To Po]
  · isplitl [To]; · iexact To
    iexact Po
  isplitl [Tb]
  · iapply (Entails.of_eq (hb.trans (congrArg _ hb'))); iexact Tb
  isplitl [Pb]; · iexact Pb
  isplitl [Ts]; · iexact Ts
  isplitl [Tr]
  · iapply (Entails.of_eq hr); iexact Tr
  isplitl [Ps]; · iexact Ps
  iexact Pr

/-- Every device's share of the ghost state, once the names are chosen and the tokens dealt. -/
theorem regroup :
    (bigSep Finset.univ fun c : Dev nD => iprop((bigSep Finset.univ fun a : AC => iprop(∃ κ : ℕ, cellInv ER (xRd m) κ (kcell c a)))
          ∗ ((bigSep Finset.univ fun a : AC => pos₀ c a) ∗ bigSep Finset.univ fun a : AC => reached ER (kcell c a) 0) ∗ toks c) : sProp 𝕄)
      ⊢ bigSep Finset.univ (G' m) := by
  rw [zipped, zipped, zipped, ← bigSep_univ_prod (fun x : Dev nD × AC => iprop(∃ κ : ℕ, cellInv ER (xRd m) κ (kcell x.1 x.2))),
    ← bigSep_univ_prod (fun x : Dev nD × AC => (reached ER (kcell x.1 x.2) 0 : sProp 𝕄))]
  iintro ⟨HI, ⟨Hat, HR⟩, Htok⟩
  ihave HK := (BI.bigSep_exists_pi Finset.univ (fun (x : Dev nD × AC) (κ : ℕ) => (cellInv ER (xRd m) κ (kcell x.1 x.2) : sProp 𝕄))) $$ HI
  icases HK with ⟨%K, HI⟩
  ihave Hp := (deal (F := F)) $$ [Hat Htok]
  · isplitl [Hat] <;> iassumption
  ihave Hk := (BI.bigSep_of_persistent (Finset.univ : Finset (Dev nD)) (known m K)) $$ [HI HR]
  · unfold known
    isplitl [HI]; · iexact HI
    iexact HR
  iapply (each fun c : Dev nD => (show iprop(known m K ∗ pieces c) ⊢ G' m c from by unfold G'; iintro H; iexists K; iexact H))
  iapply (Entails.of_eq (zipped (fun _ : Dev nD => known m K) fun c : Dev nD => pieces (F := F) c).symm)
  isplitl [Hk]; · iexact Hk
  iexact Hp

/-- All the devices' semaphores and first deals at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The sides of the launch -/

theorem start_intro (c : Dev nD) :
    iprop(Pipeline.unscopedRestP Pipeline.Prefetch.none cfg0.spec c (fun b => m ((c : Thread nD τ).loc b)) ∗ levAts L lv
        ∗ Pipeline.launchCred (fun d => owed d due) c ∗ prngReg c (ρ c) ∗ G' m c)
      ⊢ |={Set.univ}=> iprop(start m c ∗ emp) := by
  iintro ⟨Hu, Hlev, Hcr, -, HG⟩
  ihave Hc := (creds (F := F) c) $$ Hcr
  ihave Hw := (weights_intro m c) $$ Hu
  imodintro
  unfold start G' ctx
  icases HG with ⟨%K, Hk, Hp⟩
  isplitl
  · isplitl [Hk Hp Hlev]
    · iexists K
      isplitl [Hk Hlev]
      · isplitl [Hk]; · iexact Hk
        iexact Hlev
      iexact Hp
    isplitl [Hc]; · iexact Hc
    iexact Hw
  · iempintro

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl]
  iintro ⟨Hs, -, Hr⟩
  isplitl [Hs]; · iexact Hs
  iapply (scratch_intro (F := F) c); iexact Hr

theorem phi_out (c : Dev nD) :
    (dats m 0 c).Φ (Fin.last cfg0.N) ⊢ iprop((unscopedSems0 c ∗ weights m c) ∗ Pipeline.ownSems0 osem c ∗ Pipeline.scopedRest cfg0.spec c) := by
  rw [show (dats m 0 c).Φ (Fin.last cfg0.N) = after m c from rfl]
  unfold after
  iintro ⟨Hs, Hw, Hz⟩
  ihave Hz' := (Entails.of_eq (counters (F := F) c).symm) $$ Hz
  icases Hz' with ⟨Hu, Ho⟩
  isplitl [Hu Hw]
  · isplitl [Hu]; · iexact Hu
    iexact Hw
  isplitl [Ho]; · iexact Ho
  iapply (scratch_exit (F := F) c); iexact Hs

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · fin_cases w <;> fin_cases s
      · exact mayWait_stage c 0 (by decide) due
      · exact mayWait_stage c 1 (by decide) due
    · fin_cases w <;> fin_cases s
      · exact mayWait_stage c 0 (by decide) []
      · exact mayWait_stage c 1 (by decide) []

/-! ## The run -/

/-- The contents of a window's array after the run. -/
def finalA (c : Dev nD) (w : Fin cfg0.W) : Buf (Elt F) ((cfg0.win w).arr.view.loc (c : Thread nD τ)) := (dats m 0 c).arrAt w cfg0.N

/-- The weights in memory are as they were. -/
def kept (c : Dev nD) (s : MemSt nD τ sig (Elt F)) : Prop :=
  (∀ l : Fin 3, s.mem ((winH l).view.loc (c : Thread nD τ)) = m ((winH l).view.loc (c : Thread nD τ)))
    ∧ ∀ l : Fin 3, s.mem ((woutH l).view.loc (c : Thread nD τ)) = m ((woutH l).view.loc (c : Thread nD τ))

/-- Holding the weights' arrays shows what memory holds there. -/
theorem weights_read (c : Dev nD) (s' : Phys nD τ sig (Elt F)) :
    iprop(weights m c ∗ SI s') ⊢ (iprop(⌜kept m c s'.mem⌝ ∗ SI s') : sProp 𝕄) := by
  unfold weights
  simp only [hbmI_whole, hbmO_whole]
  iintro ⟨⟨HI, HO⟩, HSI⟩
  ihave H := (pointsTo_read_all (Finset.univ : Finset (Fin 3)) (fun l => (winH l).view.loc (c : Thread nD τ)) (fun l => m ((winH l).view.loc (c : Thread nD τ))) s') $$ [HI HSI]
  · isplitl [HI] <;> iassumption
  icases H with ⟨%hi, HSI⟩
  ihave H := (pointsTo_read_all (Finset.univ : Finset (Fin 3)) (fun l => (woutH l).view.loc (c : Thread nD τ)) (fun l => m ((woutH l).view.loc (c : Thread nD τ))) s') $$ [HO HSI]
  · isplitl [HO] <;> iassumption
  icases H with ⟨%ho, HSI⟩
  isplitr
  · ipureintro; exact ⟨fun l => hi l (Finset.mem_univ l), fun l => ho l (Finset.mem_univ l)⟩
  iexact HSI

set_option maxRecDepth 8000 in
/-- From any memory with zero counters, the run of @main on the four devices ends, with each window's array at its computed
    contents, the weights as they were and every counter at zero. -/
theorem run_main : θ_run defs (onTc (τ := τ) (main (F := F))) ⟨m, fun _ => 0, ρ⟩
    (fun r => (∀ c : Dev nD, (∀ w : Fin cfg0.W, r.2.mem ((cfg0.win w).arr.view.loc (c : Thread nD τ)) = finalA m c w) ∧ kept m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owed d due) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ weights m c)) (Z := fun _ => iprop(emp))
    (hX := start_intro m ρ) (hin := phi_in m) (hout := phi_out m)
    (QY := fun c s => (∀ sm : SemLoc sig, sm.isScoped .tc = false → s.sem ((c.tc : Thread nD τ), sm) = 0) ∧ kept m c s)
    (hY := fun c s' => by
      iintro ⟨⟨Hu, Hw⟩, -, HSI⟩
      imod (Pipeline.unscopedSems0_read (X := unscopedSems0 c) (c := c) fupd_intro s') $$ [Hu HSI] with ⟨%hu, HSI⟩
      · isplitl [Hu] <;> iassumption
      ihave H := (weights_read m c s') $$ [Hw HSI]
      · isplitl [Hw] <;> iassumption
      icases H with ⟨%hw, HSI⟩
      imodintro
      isplitr; · ipureintro; exact ⟨hu, hw⟩
      iexact HSI)
    (hQ := fun _ h hs => ⟨fun c => ⟨fun w => (h c).1 w, (h c).2.2.2⟩, sem_eq_zero hs fun c => (h c).2.2.1⟩)

end Cert.Mlp

end
-- ==== Proof.Run.lean ====
/-
The run in closed form: what every device's arrays hold at the end, for the program as printed and for its idealization,
which is the same text.
-/
module

public import proofs.«01_k».proof.Proof.Launch
public import proofs.«01_k».proof.Proof.Gen.KernelIdeal
public import Idealize.ShloMosaic.Adequacy
public import Idealize.ShloMosaic.Init

@[expose] public section

noncomputable section

namespace Cert.Mlp

open Cert.Kernel Cert.Kernel.Gen

open Idealize.ShloMosaic
open Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-- The argument's array ends as it was; -/
theorem finalA_x (c : Dev nD) : finalA m c (0 : Fin 2) = m ((c : Thread nD τ).loc main_arg0) := (dats m 0 c).arrAt_in (0 : Fin 2) rfl _

/-- the result's array ends at the body's result. -/
theorem finalA_out (c : Dev nD) : finalA m c (1 : Fin 2) = outAt m c := by
  have h : (win0_1.blk (0 : Fin 1)).view.read (Elt F) (finalA m c (1 : Fin 2)) = outAt m c := by
    unfold finalA
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  rw [← h]
  funext i
  show finalA m c (1 : Fin 2) i = finalA m c (1 : Fin 2) _
  refine congrArg _ (funext fun a => Fin.ext ?_)
  fin_cases a <;> exact ((Nat.zero_add _).trans (Nat.one_mul _)).symm

/-- From any memory with zero counters, every run ends with each device's result the body's, its seven arguments unchanged,
    and every counter at zero. -/
theorem run_closed : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
    ∧ r.2.sem = fun _ => 0) :=
  (θ_run defs _ _).mono (fun r h => ⟨fun c => by
    obtain ⟨hw, hi, ho⟩ := h.1 c
    exact ⟨(hw (1 : Fin 2)).trans (finalA_out m c), (hw (0 : Fin 2)).trans (finalA_x m c), hi 0, hi 1, hi 2, ho 0, ho 1, ho 2⟩, h.2⟩) (run_main m ρ)

/-! ## The idealization is the same program -/

set_option maxHeartbeats 4000000 in
/-- The two programs' kernels; -/
theorem defs0_same : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

set_option maxHeartbeats 4000000 in
/-- their host programs; -/
theorem main_same : Cert.Kernel.main (F := F) = Cert.KernelIdeal.main (F := F) := rfl

set_option maxHeartbeats 4000000 in
/-- and all that they call. -/
theorem defs_same : Cert.Kernel.defs (F := F) = Cert.KernelIdeal.defs (F := F) :=
  congrArg (Pipeline.defs (Cert.KernelIdeal.pcfgs (F := F))) defs0_same

set_option maxHeartbeats 4000000 in
/-- So what a run of the one ends in, a run of the other does. -/
theorem transfer (Q : PUnit × MemSt Cert.KernelIdeal.nD Cert.KernelIdeal.τ Cert.KernelIdeal.sig (Elt F) → Prop)
    (h : θ_run (Cert.Kernel.defs (F := F)) (onTc (τ := Cert.Kernel.τ) (Cert.Kernel.main (F := F))) ⟨m, fun _ => 0, ρ⟩ Q) :
    θ_run (Cert.KernelIdeal.defs (F := F)) (onTc (τ := Cert.KernelIdeal.τ) (Cert.KernelIdeal.main (F := F))) ⟨m, fun _ => 0, ρ⟩ Q := by
  rw [← defs_same, ← main_same]; exact h

end Cert.Mlp

end
-- ==== Proof.Value.lean ====
/-
The value: at exact arithmetic the blocks' partial products of a layer add up, over the four devices, to the layer's product
over the whole hidden dimension, whatever the order in which a device adds its peers'.
-/
module

public import proofs.«01_k».proof.Proof.Run
public import proofs.«01_k».proof.Proof.Gen.ReferenceIdeal
public import Idealize.ShloMosaic.PureOps.Ideal
public import Idealize.ShloMosaic.Lib.Layout
public import Idealize.ShloMosaic.Lib.Pointwise

@[expose] public section

noncomputable section

namespace Cert.Mlp

open Cert.Kernel Cert.Kernel.Gen

open Idealize.ShloMosaic
open Idealize.ShloMosaic.TcCoe
open scoped BigOperators

/-- Matrices of exact numbers. -/
abbrev Mat (a b : ℕ) : Type := (⟨2, ![a, b]⟩ : Shape).Idx → EReal

/-- A layer with `h` hidden units: the first product, cut off below at zero, times the second weight. -/
def hidden {h : ℕ} (X : Mat 128 128) (W : Mat 128 h) (V : Mat h 128) : Mat 128 128 :=
  fun i => ∑ k : Fin h, max (∑ j : Fin 128, X (ix2 (i 0) j) * W (ix2 j k)) 0 * V (ix2 k (i 1))

/-! ## The devices' blocks make up a layer -/

/-- A sum over the hidden units is the sum over the devices of the sums over their blocks. -/
theorem sum_blocks (f : Fin 1024 → EReal) : ∑ n, f n = ∑ d : Dev 4, ∑ k : Fin 256, f ⟨d.val * 256 + k.val, by omega⟩ := by
  rw [← Fintype.sum_prod_type' (fun (d : Fin 4) (k : Fin 256) => f ⟨d.val * 256 + k.val, by omega⟩)]
  refine ((Equiv.sum_comp (finProdFinEquiv (m := 4) (n := 256)) f).symm).trans (Finset.sum_congr rfl fun x _ => congrArg f (Fin.ext ?_))
  show x.2.val + 256 * x.1.val = x.1.val * 256 + x.2.val
  omega

/-- The four devices' partial products add up to the layer. -/
theorem hidden_blocks (X : Mat 128 128) (W : Mat 128 1024) (V : Mat 1024 128) (i : (⟨2, ![128, 128]⟩ : Shape).Idx) :
    ∑ d : Dev 4, hidden X (Layout.block ⟨2, ![128, 256]⟩ ⟨2, ![128, 1024]⟩ 1 4 d W) (Layout.block ⟨2, ![256, 128]⟩ ⟨2, ![1024, 128]⟩ 0 4 d V) i
      = hidden X W V i := by
  unfold hidden
  rw [sum_blocks]
  refine Finset.sum_congr rfl fun d _ => Finset.sum_congr rfl fun k _ => ?_
  simp only [Layout.block_apply]
  have hw : ∀ j : Fin 128, (Layout.Tiles.idx (S := ⟨2, ![128, 256]⟩) (T := ⟨2, ![128, 1024]⟩) (a := 1) (k := 4) (by decide) d (ix2 j k)) = ix2 j ⟨d.val * 256 + k.val, by omega⟩ :=
    fun j => funext fun a => Fin.ext (by fin_cases a <;> rfl)
  have hv : (Layout.Tiles.idx (S := ⟨2, ![256, 128]⟩) (T := ⟨2, ![1024, 128]⟩) (a := 0) (k := 4) (by decide) d (ix2 k (i 1))) = ix2 ⟨d.val * 256 + k.val, by omega⟩ (i 1) :=
    funext fun a => Fin.ext (by fin_cases a <;> rfl)
  simp only [hw, hv]
  rfl

/-- A device's own part and its peers', as they land, are all the devices' parts. -/
theorem sum_peers (f : Dev nD → EReal) (c : Dev nD) : f c + (f (pe c (Fin.rev 0)) + f (pe c (Fin.rev 1)) + f (pe c (Fin.rev 2))) = ∑ d : Dev 4, f d := by
  rw [Fin.sum_univ_four]
  fin_cases c
  · show f 0 + (f 3 + f 2 + f 1) = f 0 + f 1 + f 2 + f 3
    ac_rfl
  · show f 1 + (f 0 + f 3 + f 2) = f 0 + f 1 + f 2 + f 3
    ac_rfl
  · show f 2 + (f 1 + f 0 + f 3) = f 0 + f 1 + f 2 + f 3
    ac_rfl
  · show f 3 + (f 2 + f 1 + f 0) = f 0 + f 1 + f 2 + f 3
    ac_rfl

/-! ## The kernel's operations -/

/-- An array loaded with unit axes, cast to the shape without them, is the array. -/
theorem cast_widen {s₁ s₂ : Shape} {α : Type} (h : s₂.numel = s₁.numel) (X : s₂.Idx → α) (hc : s₁.ShapeCasts s₂) : shapeCast s₂ (widen h X) hc = X := narrow_widen h X

/-- A part as sent is the part. -/
theorem unsend_cast (X : FVec Ideal S128x128 .bf16) (h : S1x128x128.ShapeCasts S128x128) : unsend (F := Ideal) (shapeCast S1x128x128 X h) = X := by
  funext i
  exact congrArg X ((Shape.reshapeEquiv_reshapeEquiv _ _ i).trans (Shape.reshapeEquiv_self _ i))

/-- Layer 0's partial product; -/
theorem pay2_eq (x : Mat 128 128) (W : Mat 128 256) (V : Mat 256 128) :
    k0_pay2 (F := Ideal) (k0_pay1 x (widen squeezes_S1x128x256_S128x256.numel_eq W)) (widen squeezes_S1x256x128_S256x128.numel_eq V) = hidden x W V := by
  unfold k0_pay2 k0_pay1 hidden
  simp only [cast_widen]
  funext i
  pointwise

/-- layer 1's; -/
theorem pay5_eq (x : Mat 128 128) (W : Mat 128 256) (V : Mat 256 128) :
    k0_pay5 (F := Ideal) x (widen squeezes_S1x128x256_S128x256.numel_eq W) (widen squeezes_S1x256x128_S256x128.numel_eq V) = hidden x W V := by
  unfold k0_pay5 hidden
  simp only [cast_widen]
  funext i
  pointwise

/-- the sum a device makes of its own part and the three it receives, -/
theorem pay4_eq (p a b d : Mat 128 128) : k0_pay4 (F := Ideal) p (land (F := Ideal) a) (land (F := Ideal) b) (land (F := Ideal) d) = fun i => p i + (a i + b i + d i) := by
  unfold k0_pay4
  simp only [land, cast_widen]
  funext i
  pointwise

/-- on the last layer too; -/
theorem pay11_eq (p a b d : Mat 128 128) : k0_pay11 (F := Ideal) p (land (F := Ideal) a) (land (F := Ideal) b) (land (F := Ideal) d) = fun i => p i + (a i + b i + d i) := by
  unfold k0_pay11
  simp only [land, cast_widen]
  funext i
  pointwise

/-- and layer 2's partial product, whose activations are summed on the way. -/
theorem pay8_eq (p a b d : Mat 128 128) (W : Mat 128 256) (V : Mat 256 128) :
    k0_pay8 (F := Ideal) p (k0_pay7 (land (F := Ideal) a)) (land (F := Ideal) b) (land (F := Ideal) d) (widen squeezes_S1x128x256_S128x256.numel_eq W) (widen squeezes_S1x256x128_S256x128.numel_eq V)
      = hidden (fun i => p i + (a i + b i + d i)) W V := by
  unfold k0_pay8 k0_pay7 hidden
  simp only [land, cast_widen]
  funext i
  pointwise

/-! ## The three layers -/

section Layers

variable (m : (ℓ : Loc nD τ sig) → Buf (Elt Ideal) ℓ)

/-- What a device sends is its partial product: on layer 0, -/
theorem sent0_eq (c : Dev nD) : sent0 m c = part0 m c := unsend_cast _ _
/-- on layer 1 -/
theorem sent1_eq (c : Dev nD) : sent1 m c = part1 m c := unsend_cast _ _
/-- and on layer 2. -/
theorem sent2_eq (c : Dev nD) : sent2 m c = part2 m c := unsend_cast _ _

/-- If every device's part of a layer is its block's, their sum, as a device makes it, is the layer. -/
theorem layer_eq (X : Mat 128 128) (W : Mat 128 1024) (V : Mat 1024 128) (p : Dev nD → Mat 128 128)
    (hp : ∀ d, p d = hidden X (Layout.block ⟨2, ![128, 256]⟩ ⟨2, ![128, 1024]⟩ 1 4 d W) (Layout.block ⟨2, ![256, 128]⟩ ⟨2, ![1024, 128]⟩ 0 4 d V)) (c : Dev nD) :
    (fun i => p c i + (p (pe c (Fin.rev 0)) i + p (pe c (Fin.rev 1)) i + p (pe c (Fin.rev 2)) i)) = hidden X W V :=
  funext fun i => ((sum_peers (fun d => p d i) c).trans (Finset.sum_congr rfl fun d _ => congrFun (hp d) i)).trans (hidden_blocks X W V i)

/-- The kernel's result on every device, when the weights' blocks are those of whole weights: the three layers in turn. -/
theorem outAt_eq (X : Mat 128 128) (W : Fin 3 → Mat 128 1024) (V : Fin 3 → Mat 1024 128) (hx : ∀ c, xin m c = X)
    (hW : ∀ c l, winV m c l = Layout.block ⟨2, ![128, 256]⟩ ⟨2, ![128, 1024]⟩ 1 4 c (W l))
    (hV : ∀ c l, woutV m c l = Layout.block ⟨2, ![256, 128]⟩ ⟨2, ![1024, 128]⟩ 0 4 c (V l)) (c : Dev nD) :
    outAt m c = hidden (hidden (hidden X (W 0) (V 0)) (W 1) (V 1)) (W 2) (V 2) := by
  have h0 : ∀ d, part0 m d = hidden X (Layout.block ⟨2, ![128, 256]⟩ ⟨2, ![128, 1024]⟩ 1 4 d (W 0)) (Layout.block ⟨2, ![256, 128]⟩ ⟨2, ![1024, 128]⟩ 0 4 d (V 0)) := fun d => by
    rw [← hx d, ← hW d 0, ← hV d 0]
    exact pay2_eq _ _ _
  have a1 : ∀ d, act1 m d = hidden X (W 0) (V 0) := fun d => by
    refine Eq.trans ?_ (layer_eq X (W 0) (V 0) (part0 m) h0 d)
    unfold act1 recv0
    simp only [sent0_eq]
    exact pay4_eq _ _ _ _
  have h1 : ∀ d, part1 m d = hidden (hidden X (W 0) (V 0)) (Layout.block ⟨2, ![128, 256]⟩ ⟨2, ![128, 1024]⟩ 1 4 d (W 1)) (Layout.block ⟨2, ![256, 128]⟩ ⟨2, ![1024, 128]⟩ 0 4 d (V 1)) := fun d => by
    rw [← a1 d, ← hW d 1, ← hV d 1]
    exact pay5_eq _ _ _
  have h2 : ∀ d, part2 m d = hidden (hidden (hidden X (W 0) (V 0)) (W 1) (V 1)) (Layout.block ⟨2, ![128, 256]⟩ ⟨2, ![128, 1024]⟩ 1 4 d (W 2)) (Layout.block ⟨2, ![256, 128]⟩ ⟨2, ![1024, 128]⟩ 0 4 d (V 2)) := fun d => by
    rw [← layer_eq _ (W 1) (V 1) (part1 m) h1 d, ← hW d 2, ← hV d 2]
    unfold part2 recv1
    simp only [sent1_eq]
    exact pay8_eq _ _ _ _ _ _
  refine Eq.trans ?_ (layer_eq _ (W 2) (V 2) (part2 m) h2 c)
  unfold outAt recv2
  simp only [sent2_eq]
  exact pay11_eq _ _ _ _

end Layers

/-! ## The reference's layer -/

/-- A layer as the reference computes it. -/
theorem reference_layer [Cert.ReferenceIdeal.Facts] (hb : Cert.ReferenceIdeal.S_.BroadcastsInDim Cert.ReferenceIdeal.S128x1024 (![] : Fin 0 → Fin Cert.ReferenceIdeal.S128x1024.rank))
    (X : FVec Ideal S128x128 .f32) (W : FVec Ideal Cert.ReferenceIdeal.S128x1024 .f32) (V : FVec Ideal Cert.ReferenceIdeal.S1024x128 .f32) :
    Host.dotGeneral Cert.ReferenceIdeal.dot_S128x1024_S1024x128_S128x128_1_0_0_1_n_n none
      (maximumf (Host.dotGeneral Cert.ReferenceIdeal.dot_S128x128_S128x1024_S128x1024_1_0_0_1_n_n none X W)
        (broadcastInDim Cert.ReferenceIdeal.S128x1024 ![] hb (constant Cert.ReferenceIdeal.S_ .f32 0x00000000#32))) V = (hidden (h := 1024) X W V : FVec Ideal S128x128 .f32) := by
  unfold hidden
  funext i
  pointwise

end Cert.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's result is the reference's, when each device's arguments are its blocks of the reference's. -/
theorem outAt_reference (m : (ℓ : Loc Cert.Kernel.nD Cert.Kernel.τ Cert.Kernel.sig) → Buf (Elt Ideal) ℓ) (X : Cert.Mlp.Mat 128 128) (W0 W1 W2 : Cert.Mlp.Mat 128 1024) (V0 V1 V2 : Cert.Mlp.Mat 1024 128)
    (h : ∀ c : Dev Cert.Kernel.nD, m ((c.tc : Thread Cert.Kernel.nD Cert.Kernel.τ).loc Cert.Kernel.main_arg0) = X
      ∧ m ((c.tc : Thread Cert.Kernel.nD Cert.Kernel.τ).loc Cert.Kernel.main_arg1) = Layout.block ⟨2, ![128, 256]⟩ ⟨2, ![128, 1024]⟩ 1 4 c W0
      ∧ m ((c.tc : Thread Cert.Kernel.nD Cert.Kernel.τ).loc Cert.Kernel.main_arg2) = Layout.block ⟨2, ![128, 256]⟩ ⟨2, ![128, 1024]⟩ 1 4 c W1
      ∧ m ((c.tc : Thread Cert.Kernel.nD Cert.Kernel.τ).loc Cert.Kernel.main_arg3) = Layout.block ⟨2, ![128, 256]⟩ ⟨2, ![128, 1024]⟩ 1 4 c W2
      ∧ m ((c.tc : Thread Cert.Kernel.nD Cert.Kernel.τ).loc Cert.Kernel.main_arg4) = Layout.block ⟨2, ![256, 128]⟩ ⟨2, ![1024, 128]⟩ 0 4 c V0
      ∧ m ((c.tc : Thread Cert.Kernel.nD Cert.Kernel.τ).loc Cert.Kernel.main_arg5) = Layout.block ⟨2, ![256, 128]⟩ ⟨2, ![1024, 128]⟩ 0 4 c V1
      ∧ m ((c.tc : Thread Cert.Kernel.nD Cert.Kernel.τ).loc Cert.Kernel.main_arg6) = Layout.block ⟨2, ![256, 128]⟩ ⟨2, ![1024, 128]⟩ 0 4 c V2)
    (c : Dev Cert.Kernel.nD) : Cert.Mlp.outAt m c = Cert.Mlp.hidden (Cert.Mlp.hidden (Cert.Mlp.hidden X W0 V0) W1 V1) W2 V2 :=
  Cert.Mlp.outAt_eq m X ![W0, W1, W2] ![V0, V1, V2] (fun d => (h d).1)
    (fun d l => by
      obtain ⟨-, h1, h2, h3, -⟩ := h d
      fin_cases l
      · exact h1
      · exact h2
      · exact h3)
    (fun d l => by
      obtain ⟨-, -, -, -, h4, h5, h6⟩ := h d
      fin_cases l
      · exact h4
      · exact h5
      · exact h6) c

/-- What one of the reference's arrays holds. -/
abbrev argOf (m' : (ℓ : Loc Cert.ReferenceIdeal.nD Cert.ReferenceIdeal.τ Cert.ReferenceIdeal.sig) → Buf (Elt Ideal) ℓ) (b : Ref Cert.ReferenceIdeal.sig .tc) :=
  m' (((0 : Dev Cert.ReferenceIdeal.nD).tc : Thread Cert.ReferenceIdeal.nD Cert.ReferenceIdeal.τ).loc b)

/-- The reference's result from its arguments: three layers in turn. -/
def outReference (m' : (ℓ : Loc Cert.ReferenceIdeal.nD Cert.ReferenceIdeal.τ Cert.ReferenceIdeal.sig) → Buf (Elt Ideal) ℓ) : Cert.Mlp.Mat 128 128 :=
  Cert.Mlp.hidden (h := 1024) (Cert.Mlp.hidden (h := 1024) (Cert.Mlp.hidden (h := 1024) (argOf m' Cert.ReferenceIdeal.main_arg0) (argOf m' Cert.ReferenceIdeal.main_arg1) (argOf m' Cert.ReferenceIdeal.main_arg4))
    (argOf m' Cert.ReferenceIdeal.main_arg2) (argOf m' Cert.ReferenceIdeal.main_arg5)) (argOf m' Cert.ReferenceIdeal.main_arg3) (argOf m' Cert.ReferenceIdeal.main_arg6)

/-- The five claims. -/
theorem claim : Cert.Claim := ⟨Cert.Kernel.Gen.facts, Cert.KernelIdeal.Gen.facts, Cert.ReferenceIdeal.Gen.facts, by
  refine ⟨fun m g _ => ?_, fun m g _ => ?_, fun m g _ => ?_, trivial, fun m g m' g' _ h => ⟨outReference m', ?_, ?_⟩⟩
  · exact (θ_run _ _ _).mono (fun r hr => ⟨fun c => (hr.1 c).2, hr.2⟩) (Cert.Mlp.run_closed m g)
  · exact Cert.Mlp.transfer m g _ ((θ_run _ _ _).mono (fun r hr => ⟨fun c => (hr.1 c).2, hr.2⟩) (Cert.Mlp.run_closed m g))
  · exact (θ_run _ _ _).mono (fun r hr => ⟨fun c => (hr c).2, sem_eq_zero_of_no_sems (by decide) r.2⟩) (Cert.ReferenceIdeal.Value.run m g)
  · exact Cert.Mlp.transfer m g _ ((θ_run _ _ _).mono (fun r hr c => ⟨(hr.1 c).1.trans (outAt_reference m _ _ _ _ _ _ _ h c), (hr.1 c).2⟩) (Cert.Mlp.run_closed m g))
  · refine (θ_run _ _ _).mono (fun r hr => ⟨(hr 0).1.trans ?_, (hr 0).2⟩) (Cert.ReferenceIdeal.Value.run m' g')
    rw [Cert.Mlp.reference_layer, Cert.Mlp.reference_layer, Cert.Mlp.reference_layer]
    rfl⟩

end Cert.Proof

end
